-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_scales [hPre_positive_scales : Cert.Pre_positive_scales.Facts] (m : (ℓ : Loc Cert.KernelIdeal.nD Cert.KernelIdeal.τ Cert.KernelIdeal.sig) → Buf (Elt Ideal) ℓ) : Prop :=
  ∀ c : Dev Cert.KernelIdeal.nD,
    (Cert.Pre_positive_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_positive_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_scales [hPre_positive_scales : Cert.Pre_positive_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_positive_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_positive_scales [hKernelIdeal : Cert.KernelIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_positive_scales [hReferenceIdeal : Cert.ReferenceIdeal.Facts] [hPre_positive_scales : Cert.Pre_positive_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "score_scale_log2e" .f32 0x3E38AA3B#32 (((1 / 8) * (Real.log 2)⁻¹ : ℝ) : EReal)

def algebraic_KernelIdeal_ReferenceIdeal_pre_positive_scales [hKernelIdeal : Cert.KernelIdeal.Facts] [hReferenceIdeal : Cert.ReferenceIdeal.Facts] [hPre_positive_scales : Cert.Pre_positive_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_positive_scales : Cert.Pre_positive_scales.Facts),
    quiescent_Kernel (hKernel := hKernel)
    ∧ quiescent_KernelIdeal (hKernelIdeal := hKernelIdeal)
    ∧ quiescent_KernelIdeal_pre_positive_scales (hKernelIdeal := hKernelIdeal) (hPre_positive_scales := hPre_positive_scales)
    ∧ quiescent_ReferenceIdeal (hReferenceIdeal := hReferenceIdeal)
    ∧ quiescent_ReferenceIdeal_pre_positive_scales (hReferenceIdeal := hReferenceIdeal) (hPre_positive_scales := hPre_positive_scales)
    ∧ preserves_Kernel_KernelIdeal
    ∧ algebraic_KernelIdeal_ReferenceIdeal_pre_positive_scales (hKernelIdeal := hKernelIdeal) (hReferenceIdeal := hReferenceIdeal) (hPre_positive_scales := hPre_positive_scales)
-- ==== Pre_positive_scales.lean ====
abbrev S6x2560x32x2x64 : Shape := ⟨5, ![6, 2560, 32, 2, 64]⟩
abbrev S6x2560x32x2 : Shape := ⟨4, ![6, 2560, 32, 2]⟩
abbrev S6x2560x32x128 : Shape := ⟨4, ![6, 2560, 32, 128]⟩
abbrev S32x128 : Shape := ⟨2, ![32, 128]⟩
abbrev S64 : Shape := ⟨1, ![64]⟩
abbrev S128 : Shape := ⟨1, ![128]⟩
abbrev S_ : Shape := ⟨0, ![]⟩

class Facts : Prop where
  bcast_S_S6x2560x32x2 : S_.BroadcastsInDim S6x2560x32x2 (![] : Fin 0 → Fin S6x2560x32x2.rank)
  reducesTo_S6x2560x32x2_S_d0_1_2_3 : S6x2560x32x2.ReducesTo [0, 1, 2, 3] S_
  h_S_ : 0 < S_.numel

variable [Facts]

def fn {F : FTy → Type} [FloatOps F] (main_arg0 : FVec F S6x2560x32x2x64 .fp8e4m3) (main_arg1 : FVec F S6x2560x32x2 .f32) (main_arg2 : FVec F S6x2560x32x2x64 .fp8e4m3) (main_arg3 : FVec F S6x2560x32x2 .f32) (main_arg4 : FVec F S6x2560x32x128 .fp8e4m3) (main_arg5 : FVec F S32x128 .f32) (main_arg6 : FVec F S64 .f32) (main_arg7 : FVec F S64 .f32) (main_arg8 : FVec F S64 .f32) (main_arg9 : FVec F S64 .f32) (main_arg10 : FVec F S128 .f32) : IVec S_ 1 × IVec S_ 1 :=
  let main_cst : FVec F S_ .f32 := constant S_ .f32 0x00000000#32
  let main_v0 : FVec F S6x2560x32x2 .f32 := broadcastInDim S6x2560x32x2 ![] bcast_S_S6x2560x32x2 main_cst
  let main_v1 : IVec S6x2560x32x2 1 := cmpf .ogt main_arg1 main_v0
  let main_c : IVec S_ 1 := constantI S_ 1 1#1
  let main_v2 : IVec S_ 1 := (fun x v => Host.reduce IntOp.andi x v reducesTo_S6x2560x32x2_S_d0_1_2_3 h_S_) main_v1 main_c
  let main_cst_0 : FVec F S_ .f32 := constant S_ .f32 0x7F800000#32
  let main_v3 : FVec F S6x2560x32x2 .f32 := broadcastInDim S6x2560x32x2 ![] bcast_S_S6x2560x32x2 main_cst_0
  let main_v4 : IVec S6x2560x32x2 1 := cmpf .olt main_arg1 main_v3
  let main_c_1 : IVec S_ 1 := constantI S_ 1 1#1
  let main_v5 : IVec S_ 1 := (fun x v => Host.reduce IntOp.andi x v reducesTo_S6x2560x32x2_S_d0_1_2_3 h_S_) main_v4 main_c_1
  (main_v2, main_v5)
-- ==== Kernel.lean ====
abbrev S6x2560x32x2x64 : Shape := ⟨5, ![6, 2560, 32, 2, 64]⟩
abbrev S6x2560x32x2 : Shape := ⟨4, ![6, 2560, 32, 2]⟩
abbrev S6x2560x32x128 : Shape := ⟨4, ![6, 2560, 32, 128]⟩
abbrev S32x128 : Shape := ⟨2, ![32, 128]⟩
abbrev S64 : Shape := ⟨1, ![64]⟩
abbrev S128 : Shape := ⟨1, ![128]⟩
abbrev S6x2560x4096 : Shape := ⟨3, ![6, 2560, 4096]⟩
abbrev S6x32x2x2560 : Shape := ⟨4, ![6, 32, 2, 2560]⟩
abbrev S1x64 : Shape := ⟨2, ![1, 64]⟩
abbrev S1x128 : Shape := ⟨2, ![1, 128]⟩
abbrev S32x1x128 : Shape := ⟨3, ![32, 1, 128]⟩
abbrev S1x1x2x2560 : Shape := ⟨4, ![1, 1, 2, 2560]⟩
abbrev S1x1x128 : Shape := ⟨3, ![1, 1, 128]⟩
abbrev S1x2560x128 : Shape := ⟨3, ![1, 2560, 128]⟩
abbrev S2560x128 : Shape := ⟨2, ![2560, 128]⟩
abbrev S2x2560x128 : Shape := ⟨3, ![2, 2560, 128]⟩
abbrev S128x2560 : Shape := ⟨2, ![128, 2560]⟩
abbrev S2x2560x256 : Shape := ⟨3, ![2, 2560, 256]⟩
abbrev S1 : Shape := ⟨1, ![1]⟩
abbrev S1x1 : Shape := ⟨2, ![1, 1]⟩
abbrev S128x128 : Shape := ⟨2, ![128, 128]⟩
abbrev S128x256 : Shape := ⟨2, ![128, 256]⟩
abbrev S1x1x1x128 : Shape := ⟨4, ![1, 1, 1, 128]⟩
abbrev S1x128x128 : Shape := ⟨3, ![1, 128, 128]⟩
abbrev S1x256x128 : Shape := ⟨3, ![1, 256, 128]⟩
abbrev S256x128 : Shape := ⟨2, ![256, 128]⟩
abbrev S1x1x1x256 : Shape := ⟨4, ![1, 1, 1, 256]⟩
abbrev S1x256 : Shape := ⟨2, ![1, 256]⟩
abbrev S256x256 : Shape := ⟨2, ![256, 256]⟩
abbrev S1x256x256 : Shape := ⟨3, ![1, 256, 256]⟩
abbrev S256 : Shape := ⟨1, ![256]⟩

abbrev nBuf : Space → Nat
  | .hbm => 23
  | .vmem => 24
  | .smem => 0
  | _ => 0

abbrev bufTy : (tb : Table) → Fin (tcTables nBuf tb) → BufTy
  | .hbm, ⟨0, _⟩ => ⟨S6x2560x32x2x64, .fp8e4m3⟩
  | .hbm, ⟨1, _⟩ => ⟨S6x2560x32x2, .f32⟩
  | .hbm, ⟨2, _⟩ => ⟨S6x2560x32x2x64, .fp8e4m3⟩
  | .hbm, ⟨3, _⟩ => ⟨S6x2560x32x2, .f32⟩
  | .hbm, ⟨4, _⟩ => ⟨S6x2560x32x128, .fp8e4m3⟩
  | .hbm, ⟨5, _⟩ => ⟨S32x128, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S128, .f32⟩
  | .hbm, ⟨11, _⟩ => ⟨S6x2560x4096, .fp8e4m3⟩
  | .hbm, ⟨12, _⟩ => ⟨S6x2560x4096, .fp8e4m3⟩
  | .hbm, ⟨13, _⟩ => ⟨S6x2560x4096, .fp8e4m3⟩
  | .hbm, ⟨14, _⟩ => ⟨S6x32x2x2560, .f32⟩
  | .hbm, ⟨15, _⟩ => ⟨S6x32x2x2560, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x128, .f32⟩
  | .hbm, ⟨21, _⟩ => ⟨S32x1x128, .f32⟩
  | .hbm, ⟨22, _⟩ => ⟨S6x2560x4096, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x128, .f32⟩
  | .local _ .vmem, ⟨5, _⟩ => ⟨S1x1x2x2560, .f32⟩
  | .local _ .vmem, ⟨6, _⟩ => ⟨S1x1x2x2560, .f32⟩
  | .local _ .vmem, ⟨7, _⟩ => ⟨S1x1x2x2560, .f32⟩
  | .local _ .vmem, ⟨8, _⟩ => ⟨S1x1x2x2560, .f32⟩
  | .local _ .vmem, ⟨9, _⟩ => ⟨S1x1x128, .f32⟩
  | .local _ .vmem, ⟨10, _⟩ => ⟨S1x1x128, .f32⟩
  | .local _ .vmem, ⟨11, _⟩ => ⟨S1x2560x128, .fp8e4m3⟩
  | .local _ .vmem, ⟨12, _⟩ => ⟨S1x2560x128, .fp8e4m3⟩
  | .local _ .vmem, ⟨13, _⟩ => ⟨S1x2560x128, .fp8e4m3⟩
  | .local _ .vmem, ⟨14, _⟩ => ⟨S1x2560x128, .fp8e4m3⟩
  | .local _ .vmem, ⟨15, _⟩ => ⟨S1x2560x128, .fp8e4m3⟩
  | .local _ .vmem, ⟨16, _⟩ => ⟨S1x2560x128, .fp8e4m3⟩
  | .local _ .vmem, ⟨17, _⟩ => ⟨S1x2560x128, .bf16⟩
  | .local _ .vmem, ⟨18, _⟩ => ⟨S1x2560x128, .bf16⟩
  | .local _ .vmem, ⟨19, _⟩ => ⟨S2560x128, .fp8e4m3⟩
  | .local _ .vmem, ⟨20, _⟩ => ⟨S2x2560x128, .fp8e4m3⟩
  | .local _ .vmem, ⟨21, _⟩ => ⟨S128x2560, .bf16⟩
  | .local _ .vmem, ⟨22, _⟩ => ⟨S2x2560x128, .f32⟩
  | .local _ .vmem, ⟨23, _⟩ => ⟨S2x2560x256, .f32⟩
  | _, _ => ⟨S6x2560x32x2x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2560x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2560x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2560x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2560x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "score_scale_log2e" => some (((1 / 8) * (Real.log 2)⁻¹ : ℝ) : EReal)
  | _ => none
-- ==== ReferenceIdeal.lean ====
abbrev S6x2560x32x2x64 : Shape := ⟨5, ![6, 2560, 32, 2, 64]⟩
abbrev S6x2560x32x2 : Shape := ⟨4, ![6, 2560, 32, 2]⟩
abbrev S6x2560x32x128 : Shape := ⟨4, ![6, 2560, 32, 128]⟩
abbrev S32x128 : Shape := ⟨2, ![32, 128]⟩
abbrev S64 : Shape := ⟨1, ![64]⟩
abbrev S128 : Shape := ⟨1, ![128]⟩
abbrev S_ : Shape := ⟨0, ![]⟩
abbrev S6x32x2x2560 : Shape := ⟨4, ![6, 32, 2, 2560]⟩
abbrev S6x32x2x2560x2560 : Shape := ⟨5, ![6, 32, 2, 2560, 2560]⟩
abbrev S6x32x2x2560x1 : Shape := ⟨5, ![6, 32, 2, 2560, 1]⟩
abbrev S6x32x2x1x2560 : Shape := ⟨5, ![6, 32, 2, 1, 2560]⟩
abbrev S2560 : Shape := ⟨1, ![2560]⟩
abbrev S1x2560 : Shape := ⟨2, ![1, 2560]⟩
abbrev S2560x1 : Shape := ⟨2, ![2560, 1]⟩
abbrev S2560x2560 : Shape := ⟨2, ![2560, 2560]⟩
abbrev S6x32x1x2560x2560 : Shape := ⟨5, ![6, 32, 1, 2560, 2560]⟩
abbrev S6x32x2560x2560 : Shape := ⟨4, ![6, 32, 2560, 2560]⟩
abbrev S6x32x1x2560x1 : Shape := ⟨5, ![6, 32, 1, 2560, 1]⟩
abbrev S6x32x2560x1 : Shape := ⟨4, ![6, 32, 2560, 1]⟩
abbrev S6x32x2560x128 : Shape := ⟨4, ![6, 32, 2560, 128]⟩
abbrev S32x1x128 : Shape := ⟨3, ![32, 1, 128]⟩
abbrev S1x32x1x128 : Shape := ⟨4, ![1, 32, 1, 128]⟩
abbrev S6x32x2560 : Shape := ⟨3, ![6, 32, 2560]⟩
abbrev S1x1x1x128 : Shape := ⟨4, ![1, 1, 1, 128]⟩
abbrev S6x2560x4096 : Shape := ⟨3, ![6, 2560, 4096]⟩

abbrev nBuf : Space → Nat
  | .hbm => 102
  | .vmem => 6
  | .smem => 0
  | _ => 0

abbrev bufTy : (tb : Table) → Fin (tcTables nBuf tb) → BufTy
  | .hbm, ⟨0, _⟩ => ⟨S6x2560x32x2x64, .fp8e4m3⟩
  | .hbm, ⟨1, _⟩ => ⟨S6x2560x32x2, .f32⟩
  | .hbm, ⟨2, _⟩ => ⟨S6x2560x32x2x64, .fp8e4m3⟩
  | .hbm, ⟨3, _⟩ => ⟨S6x2560x32x2, .f32⟩
  | .hbm, ⟨4, _⟩ => ⟨S6x2560x32x128, .fp8e4m3⟩
  | .hbm, ⟨5, _⟩ => ⟨S32x128, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S128, .f32⟩
  | .hbm, ⟨11, _⟩ => ⟨S6x2560x32x2x64, .f32⟩
  | .hbm, ⟨12, _⟩ => ⟨S6x2560x32x2x64, .f32⟩
  | .hbm, ⟨13, _⟩ => ⟨S6x2560x32x128, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S6x32x2x2560, .f32⟩
  | .hbm, ⟨26, _⟩ => ⟨S_, .f32⟩
  | .hbm, ⟨27, _⟩ => ⟨S6x32x2x2560, .f32⟩
  | .hbm, ⟨28, _⟩ => ⟨S6x32x2x2560, .f32⟩
  | .hbm, ⟨29, _⟩ => ⟨S6x32x2x2560, .f32⟩
  | .hbm, ⟨30, _⟩ => ⟨S6x32x2x2560x2560, .f32⟩
  | .hbm, ⟨31, _⟩ => ⟨S6x32x2x2560x1, .f32⟩
  | .hbm, ⟨32, _⟩ => ⟨S6x32x2x2560x2560, .f32⟩
  | .hbm, ⟨33, _⟩ => ⟨S6x32x2x2560x2560, .f32⟩
  | .hbm, ⟨34, _⟩ => ⟨S6x32x2x1x2560, .f32⟩
  | .hbm, ⟨35, _⟩ => ⟨S6x32x2x2560x2560, .f32⟩
  | .hbm, ⟨36, _⟩ => ⟨S6x32x2x2560x2560, .f32⟩
  | .hbm, ⟨37, _⟩ => ⟨S2560, .i32⟩
  | .hbm, ⟨38, _⟩ => ⟨S1x2560, .i32⟩
  | .hbm, ⟨39, _⟩ => ⟨S2560, .i32⟩
  | .hbm, ⟨40, _⟩ => ⟨S2560x1, .i32⟩
  | .hbm, ⟨41, _⟩ => ⟨S2560x2560, .i32⟩
  | .hbm, ⟨42, _⟩ => ⟨S2560x2560, .i32⟩
  | .hbm, ⟨43, _⟩ => ⟨S2560x2560, .i1⟩
  | .hbm, ⟨44, _⟩ => ⟨S_, .f32⟩
  | .hbm, ⟨45, _⟩ => ⟨S_, .f32⟩
  | .hbm, ⟨46, _⟩ => ⟨S6x32x2x2560x2560, .i1⟩
  | .hbm, ⟨47, _⟩ => ⟨S6x32x2x2560x2560, .f32⟩
  | .hbm, ⟨48, _⟩ => ⟨S6x32x2x2560x2560, .f32⟩
  | .hbm, ⟨49, _⟩ => ⟨S_, .f32⟩
  | .hbm, ⟨50, _⟩ => ⟨S6x32x2x2560, .f32⟩
  | .hbm, ⟨51, _⟩ => ⟨S6x32x2x2560x1, .f32⟩
  | .hbm, ⟨52, _⟩ => ⟨S6x32x2x2560x2560, .f32⟩
  | .hbm, ⟨53, _⟩ => ⟨S6x32x2x2560x2560, .f32⟩
  | .hbm, ⟨54, _⟩ => ⟨S6x32x2x2560x2560, .f32⟩
  | .hbm, ⟨55, _⟩ => ⟨S_, .f32⟩
  | .hbm, ⟨56, _⟩ => ⟨S6x32x2x2560, .f32⟩
  | .hbm, ⟨57, _⟩ => ⟨S6x32x2x2560x1, .f32⟩
  | .hbm, ⟨58, _⟩ => ⟨S6x32x1x2560x2560, .f32⟩
  | .hbm, ⟨59, _⟩ => ⟨S6x32x2560x2560, .f32⟩
  | .hbm, ⟨60, _⟩ => ⟨S6x32x1x2560x1, .f32⟩
  | .hbm, ⟨61, _⟩ => ⟨S6x32x2560x1, .f32⟩
  | .hbm, ⟨62, _⟩ => ⟨S6x32x2560x2560, .f32⟩
  | .hbm, ⟨63, _⟩ => ⟨S6x32x2560x2560, .f32⟩
  | .hbm, ⟨64, _⟩ => ⟨S6x32x1x2560x2560, .f32⟩
  | .hbm, ⟨65, _⟩ => ⟨S6x32x2560x2560, .f32⟩
  | .hbm, ⟨66, _⟩ => ⟨S6x32x1x2560x1, .f32⟩
  | .hbm, ⟨67, _⟩ => ⟨S6x32x2560x1, .f32⟩
  | .hbm, ⟨68, _⟩ => ⟨S6x32x2560x1, .f32⟩
  | .hbm, ⟨69, _⟩ => ⟨S6x32x2560x1, .f32⟩
  | .hbm, ⟨70, _⟩ => ⟨S6x32x2560x2560, .f32⟩
  | .hbm, ⟨71, _⟩ => ⟨S6x32x2560x2560, .f32⟩
  | .hbm, ⟨72, _⟩ => ⟨S6x32x2560x2560, .f32⟩
  | .hbm, ⟨73, _⟩ => ⟨S6x32x2560x2560, .bf16⟩
  | .hbm, ⟨74, _⟩ => ⟨S6x2560x32x128, .bf16⟩
  | .hbm, ⟨75, _⟩ => ⟨S6x32x2560x128, .f32⟩
  | .hbm, ⟨76, _⟩ => ⟨S32x1x128, .f32⟩
  | .hbm, ⟨77, _⟩ => ⟨S1x32x1x128, .f32⟩
  | .hbm, ⟨78, _⟩ => ⟨S6x32x2560x128, .f32⟩
  | .hbm, ⟨79, _⟩ => ⟨S6x32x2560x128, .f32⟩
  | .hbm, ⟨80, _⟩ => ⟨S6x32x2560x128, .f32⟩
  | .hbm, ⟨81, _⟩ => ⟨S_, .f32⟩
  | .hbm, ⟨82, _⟩ => ⟨S6x32x2560, .f32⟩
  | .hbm, ⟨83, _⟩ => ⟨S6x32x2560x1, .f32⟩
  | .hbm, ⟨84, _⟩ => ⟨S_, .f32⟩
  | .hbm, ⟨85, _⟩ => ⟨S6x32x2560x1, .f32⟩
  | .hbm, ⟨86, _⟩ => ⟨S6x32x2560x1, .f32⟩
  | .hbm, ⟨87, _⟩ => ⟨S_, .f32⟩
  | .hbm, ⟨88, _⟩ => ⟨S6x32x2560x1, .f32⟩
  | .hbm, ⟨89, _⟩ => ⟨S6x32x2560x1, .f32⟩
  | .hbm, ⟨90, _⟩ => ⟨S6x32x2560x1, .f32⟩
  | .hbm, ⟨91, _⟩ => ⟨S6x32x2560x128, .f32⟩
  | .hbm, ⟨92, _⟩ => ⟨S6x32x2560x128, .f32⟩
  | .hbm, ⟨93, _⟩ => ⟨S_, .f32⟩
  | .hbm, ⟨94, _⟩ => ⟨S128, .f32⟩
  | .hbm, ⟨95, _⟩ => ⟨S128, .f32⟩
  | .hbm, ⟨96, _⟩ => ⟨S1x1x1x128, .f32⟩
  | .hbm, ⟨97, _⟩ => ⟨S6x32x2560x128, .f32⟩
  | .hbm, ⟨98, _⟩ => ⟨S6x32x2560x128, .f32⟩
  | .hbm, ⟨99, _⟩ => ⟨S6x32x2560x128, .bf16⟩
  | .hbm, ⟨100, _⟩ => ⟨S6x2560x32x128, .bf16⟩
  | .hbm, ⟨101, _⟩ => ⟨S6x2560x4096, .bf16⟩
  | .local _ .vmem, ⟨0, _⟩ => ⟨S6x2560x32x2x64, .fp8e4m3⟩
  | .local _ .vmem, ⟨1, _⟩ => ⟨S6x2560x32x2x64, .fp8e4m3⟩
  | .local _ .vmem, ⟨2, _⟩ => ⟨S6x2560x32x128, .fp8e4m3⟩
  | .local _ .vmem, ⟨3, _⟩ => ⟨S6x2560x32x2x64, .f32⟩
  | .local _ .vmem, ⟨4, _⟩ => ⟨S6x2560x32x2x64, .f32⟩
  | .local _ .vmem, ⟨5, _⟩ => ⟨S6x2560x32x128, .f32⟩
  | _, _ => ⟨S6x2560x32x2x64, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_6 : Ref sig .tc := ⟨.hbm, 81, rfl⟩
abbrev main_v58 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_v61 : Ref sig .tc := ⟨.hbm, 86, rfl⟩
abbrev main_cst_8 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x2560x32x2x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x2560x32x2x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x2560x32x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x2560x32x2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x2560x32x2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2560x32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.RefTerm.lean ====
/-
  The reference's host operations, as one term over the decoded codes and the other arguments, in the stages of the
  mathematics.
-/
module

public import proofs.«01_k».proof.Proof.Gen.ReferenceIdeal.Frame
public import Idealize.ShloMosaic.Lib.StableHlo.RunRead
public import Idealize.ShloMosaic.Lib.Pointwise

@[expose] public section

set_option maxRecDepth 16384

noncomputable section

namespace Cert.Attn.Ref

open Idealize.ShloMosaic Idealize.ShloMosaic.TcCoe Idealize.SL.Sem Cert.ReferenceIdeal Cert.ReferenceIdeal.Gen

/-- The weight of the second attention. -/
def lamT (a6 a7 a8 a9 : FVec Ideal S64 .f32) : FVec Ideal S_ .f32 :=
  addf (subf (Host.exp (Host.reduceAdd (mulf a6 a7) (constant S_ .f32 0x00000000#32) reducesTo_S64_S_d0 h_S_))
    (Host.exp (Host.reduceAdd (mulf a8 a9) (constant S_ .f32 0x00000000#32) reducesTo_S64_S_d0 h_S_))) (constant S_ .f32 0x3F2A86F7#32)

/-- The scores, before the mask. -/
def scoreT (q k : FVec Ideal S6x2560x32x2x64 .f32) (a1 a3 : FVec Ideal S6x2560x32x2 .f32) : FVec Ideal S6x32x2x2560x2560 .f32 :=
  mulf
    (mulf (Host.dotGeneral dot_S6x2560x32x2x64_S6x2560x32x2x64_S6x32x2x2560x2560_4_4_1_1_023_023 none q k)
      (broadcastInDim S6x32x2x2560x2560 ![0, 1, 2, 3, 4] bcast_S6x32x2x2560x1_S6x32x2x2560x2560_0_1_2_3_4
        (broadcastInDim S6x32x2x2560x1 ![0, 1, 2, 3] bcast_S6x32x2x2560_S6x32x2x2560x1_0_1_2_3
          (mulf (transpose S6x32x2x2560 [0, 2, 3, 1] a1 transposes_S6x2560x32x2_S6x32x2x2560_0_2_3_1)
            (broadcastInDim S6x32x2x2560 ![] bcast_S_S6x32x2x2560 (constant S_ .f32 0x3E000000#32))))))
    (broadcastInDim S6x32x2x2560x2560 ![0, 1, 2, 3, 4] bcast_S6x32x2x1x2560_S6x32x2x2560x2560_0_1_2_3_4
      (broadcastInDim S6x32x2x1x2560 ![0, 1, 2, 4] bcast_S6x32x2x2560_S6x32x2x1x2560_0_1_2_4
        (transpose S6x32x2x2560 [0, 2, 3, 1] a3 transposes_S6x2560x32x2_S6x32x2x2560_0_2_3_1)))

/-- Which keys a query may see. -/
def seenT : Vec Ideal S2560x2560 .i1 :=
  cmpi .sle
    (broadcastInDim S2560x2560 ![0, 1] bcast_S1x2560_S2560x2560_0_1 (broadcastInDim S1x2560 ![1] bcast_S2560_S1x2560_1 (iotaInDim S2560 32 0)))
    (broadcastInDim S2560x2560 ![0, 1] bcast_S2560x1_S2560x2560_0_1 (broadcastInDim S2560x1 ![0] bcast_S2560_S2560x1_0 (iotaInDim S2560 32 0)))

/-- The scores under the mask. -/
def maskT (s : FVec Ideal S6x32x2x2560x2560 .f32) : FVec Ideal S6x32x2x2560x2560 .f32 :=
  select (broadcastInDim S6x32x2x2560x2560 ![3, 4] bcast_S2560x2560_S6x32x2x2560x2560_3_4 seenT) s
    (broadcastInDim S6x32x2x2560x2560 ![] bcast_S_S6x32x2x2560x2560 (constant S_ .f32 0xFF800000#32))

/-- The exponentials, each row under its largest score. -/
def expT (s : FVec Ideal S6x32x2x2560x2560 .f32) : FVec Ideal S6x32x2x2560x2560 .f32 :=
  Host.exp (subf s
    (broadcastInDim S6x32x2x2560x2560 ![0, 1, 2, 3, 4] bcast_S6x32x2x2560x1_S6x32x2x2560x2560_0_1_2_3_4
      (broadcastInDim S6x32x2x2560x1 ![0, 1, 2, 3] bcast_S6x32x2x2560_S6x32x2x2560x1_0_1_2_3
        (Host.reduce FloatOps.maximumf s (constant S_ .f32 0xFF800000#32) reducesTo_S6x32x2x2560x2560_S6x32x2x2560_d4 h_S_))))

/-- Their sums. -/
def sumT (e : FVec Ideal S6x32x2x2560x2560 .f32) : FVec Ideal S6x32x2x2560x1 .f32 :=
  broadcastInDim S6x32x2x2560x1 ![0, 1, 2, 3] bcast_S6x32x2x2560_S6x32x2x2560x1_0_1_2_3
    (Host.reduceAdd e (constant S_ .f32 0x00000000#32) reducesTo_S6x32x2x2560x2560_S6x32x2x2560_d4 h_S_)

/-- The difference of the two attentions' weights. -/
def diffT (e : FVec Ideal S6x32x2x2560x2560 .f32) (l : FVec Ideal S6x32x2x2560x1 .f32) (lam : FVec Ideal S_ .f32) :
    FVec Ideal S6x32x2560x2560 .f32 :=
  subf
    (Host.divf
      (shapeCast S6x32x2560x2560 (extractStridedSlice S6x32x1x2560x2560 ![0, 0, 0, 0, 0] e slices_S6x32x2x2560x2560_S6x32x1x2560x2560_0_0_0_0_0) shapeCasts_S6x32x1x2560x2560_S6x32x2560x2560)
      (broadcastInDim S6x32x2560x2560 ![0, 1, 2, 3] bcast_S6x32x2560x1_S6x32x2560x2560_0_1_2_3
        (shapeCast S6x32x2560x1 (extractStridedSlice S6x32x1x2560x1 ![0, 0, 0, 0, 0] l slices_S6x32x2x2560x1_S6x32x1x2560x1_0_0_0_0_0) shapeCasts_S6x32x1x2560x1_S6x32x2560x1)))
    (mulf
      (shapeCast S6x32x2560x2560 (extractStridedSlice S6x32x1x2560x2560 ![0, 0, 1, 0, 0] e slices_S6x32x2x2560x2560_S6x32x1x2560x2560_0_0_1_0_0) shapeCasts_S6x32x1x2560x2560_S6x32x2560x2560)
      (broadcastInDim S6x32x2560x2560 ![0, 1, 2, 3] bcast_S6x32x2560x1_S6x32x2560x2560_0_1_2_3
        (Host.divf (broadcastInDim S6x32x2560x1 ![] bcast_S_S6x32x2560x1 lam)
          (shapeCast S6x32x2560x1 (extractStridedSlice S6x32x1x2560x1 ![0, 0, 1, 0, 0] l slices_S6x32x2x2560x1_S6x32x1x2560x1_0_0_1_0_0) shapeCasts_S6x32x1x2560x1_S6x32x2560x1))))

/-- The attended values. -/
def attnT (w : FVec Ideal S6x32x2560x2560 .f32) (v : FVec Ideal S6x2560x32x128 .f32) (a5 : FVec Ideal S32x128 .f32) :
    FVec Ideal S6x32x2560x128 .f32 :=
  mulf
    (Host.dotGeneral dot_S6x32x2560x2560_S6x2560x32x128_S6x32x2560x128_3_1_2_3_01_02 none (truncf .bf16 w bitsLt_bf16_f32) (truncf .bf16 v bitsLt_bf16_f32))
    (broadcastInDim S6x32x2560x128 ![0, 1, 2, 3] bcast_S1x32x1x128_S6x32x2560x128_0_1_2_3
      (broadcastInDim S1x32x1x128 ![1, 2, 3] bcast_S32x1x128_S1x32x1x128_1_2_3 (broadcastInDim S32x1x128 ![0, 2] bcast_S32x128_S32x1x128_0_2 a5)))

/-- The result: each head's row normalised, and the heads side by side. -/
def outT (o : FVec Ideal S6x32x2560x128 .f32) (a10 : FVec Ideal S128 .f32) : FVec Ideal S6x2560x4096 .bf16 :=
  shapeCast S6x2560x4096
    (transpose S6x2560x32x128 [0, 2, 1, 3]
      (truncf .bf16
        (mulf
          (mulf o
            (broadcastInDim S6x32x2560x128 ![0, 1, 2, 3] bcast_S6x32x2560x1_S6x32x2560x128_0_1_2_3
              (Host.rsqrt
                (addf
                  (Host.divf
                    (broadcastInDim S6x32x2560x1 ![0, 1, 2] bcast_S6x32x2560_S6x32x2560x1_0_1_2
                      (Host.reduceAdd (mulf o o) (constant S_ .f32 0x00000000#32) reducesTo_S6x32x2560x128_S6x32x2560_d3 h_S_))
                    (broadcastInDim S6x32x2560x1 ![] bcast_S_S6x32x2560x1 (constant S_ .f32 0x43000000#32)))
                  (broadcastInDim S6x32x2560x1 ![] bcast_S_S6x32x2560x1 (constant S_ .f32 0x3727C5AC#32))))))
          (broadcastInDim S6x32x2560x128 ![0, 1, 2, 3] bcast_S1x1x1x128_S6x32x2560x128_0_1_2_3
            (broadcastInDim S1x1x1x128 ![3] bcast_S128_S1x1x1x128_3
              (mulf a10 (broadcastInDim S128 ![] bcast_S_S128 (constant S_ .f32 0x3EAAF212#32))))))
        bitsLt_bf16_f32)
      transposes_S6x32x2560x128_S6x2560x32x128_0_2_1_3)
    shapeCasts_S6x2560x32x128_S6x2560x4096

variable (V : Valuation τ sig (Elt Ideal))

theorem lam_read : StableHlo.after hostOps1 V (Proc.devRef .tc main_v8)
    = lamT (V (Proc.devRef .tc main_arg6)) (V (Proc.devRef .tc main_arg7)) (V (Proc.devRef .tc main_arg8)) (V (Proc.devRef .tc main_arg9)) := by
  after_reads_simp
  rfl

theorem score_read : StableHlo.after hostOps1 V (Proc.devRef .tc main_v19)
    = scoreT (V (Proc.devRef .tc main_v0_0)) (V (Proc.devRef .tc main_v0_1)) (V (Proc.devRef .tc main_arg1)) (V (Proc.devRef .tc main_arg3)) := by
  after_reads_simp
  rfl

theorem seen_read : StableHlo.after hostOps1 V (Proc.devRef .tc main_v26) = seenT := by
  after_reads_simp
  rfl

theorem mask_read : StableHlo.after hostOps1_1 (StableHlo.after hostOps1 V) (Proc.devRef .tc main_v27)
    = maskT (scoreT (V (Proc.devRef .tc main_v0_0)) (V (Proc.devRef .tc main_v0_1)) (V (Proc.devRef .tc main_arg1)) (V (Proc.devRef .tc main_arg3))) := by
  after_reads_simp
  rfl

theorem out_read : StableHlo.after hostOps1_2 V (Proc.devRef .tc main_v74)
    = outT (attnT (diffT (expT (V (Proc.devRef .tc main_v27))) (sumT (expT (V (Proc.devRef .tc main_v27)))) (V (Proc.devRef .tc main_v8)))
        (V (Proc.devRef .tc main_v0_2)) (V (Proc.devRef .tc main_arg5))) (V (Proc.devRef .tc main_arg10)) := by
  after_reads_simp
  rfl

end Cert.Attn.Ref

end
-- ==== Proof.Loop.lean ====
/-
  The kernel's body at one grid point, written as the loops it was unrolled from: over the ten blocks of 256 queries, the
  two halves of the heads, and the blocks of keys up to the diagonal. The scores' scratch is carried as the list of the
  stores made into it (the latest first), as the run of the body finds it.
-/
module

public import proofs.«01_k».proof.Proof.Gen.KernelIdeal.Skeleton
public import Idealize.ShloMosaic.Lib.Exec
public import Idealize.ShloMosaic.Lib.Pipeline.FrameBody

@[expose] public section

noncomputable section

namespace Cert.Attn

open Idealize.ShloMosaic Idealize.SL.Sem Cert.KernelIdeal Cert.KernelIdeal.Gen

variable {F : FTy → Type} [FloatOps F] [Named F]

/-- What the body's loops read: per half of the heads and block, the vectors loaded from the inputs and from the scratch
    buffers filled at the start. -/
structure Src (F : FTy → Type) where
  /-- the weight of the second softmax -/
  lam : FVec F S1x1 .f32
  /-- the gain, one row per channel -/
  gain : FVec F S128x256 .f32
  /-- the scale of the values, one row per channel -/
  vs : FVec F S128x256 .f32
  /-- the scales of a block of queries -/
  qs : Fin 2 → Fin 10 → Vec F S1x1x1x256 .f32
  /-- a block of keys, the half in the low lanes -/
  key : Fin 2 → Fin 10 → FVec F S256x128 .fp8e4m3
  /-- the scales of a block of keys, repeated along the lanes -/
  kcol : Fin 2 → Fin 10 → Vec F S1x256x128 .f32
  /-- a block of queries, the half in the low lanes and zero above -/
  qry : Fin 2 → Fin 10 → Vec F S1x256x128 .fp8e4m3
  /-- a block of values, transposed -/
  vt : Fin 10 → Vec F S128x256 .bf16
  /-- the scratch that holds the scores -/
  xs : View sig .tc .vmem S2x2560x256 .f32

/-- Where block `j` of half `c` lies in the scratch of the scores. -/
def xrect (c : Fin 2) (j : Fin 10) : Rect S2x2560x256 :=
  Rect.unit ![c.val, 256 * j.val, 0] S1x256x256.size (by
    intro a; have := c.isLt; have := j.isLt
    match a with
    | ⟨0, _⟩ => show c.val + 1 ≤ 2; omega
    | ⟨1, _⟩ => show 256 * j.val + 256 ≤ 2560; omega
    | ⟨2, _⟩ => show 0 + 256 ≤ 256; omega)

/-- Where block `i` of the queries lies in the output. -/
def orect (i : Fin 10) : Rect S1x2560x128 :=
  Rect.unit ![0, 256 * i.val, 0] S1x256x128.size (by
    intro a; have := i.isLt
    match a with
    | ⟨0, _⟩ => show 0 + 1 ≤ 1; omega
    | ⟨1, _⟩ => show 256 * i.val + 256 ≤ 2560; omega
    | ⟨2, _⟩ => show 0 + 128 ≤ 128; omega)

/-- Stores made into the scratch of the scores. -/
abbrev XList (F : FTy → Type) := List (View.Piece (Elt F) S2x2560x256 .f32)

variable (S : Src F)

/-- The products of a block of keys with a block of queries, before the mask. -/
def raw (c : Fin 2) (i j : Fin 10) : FVec F S256x256 .f32 :=
  mulf (matmul dot_S256x128_S256x128_S256x256_1_1_0_0_n_n none (S.key c j)
      (shapeCast S256x128 (S.qry c i) shapeCasts_S1x256x128_S256x128) (constant S256x256 .f32 0x00000000#32))
    (concatenate S256x256 1 [⟨S256x128, shapeCast S256x128 (S.kcol c j) shapeCasts_S1x256x128_S256x128⟩,
      ⟨S256x128, shapeCast S256x128 (S.kcol c j) shapeCasts_S1x256x128_S256x128⟩] concatenates_S256x128_S256x128_S256x256_d1)

/-- On the diagonal, the keys after the query are hidden. -/
def hide (x : FVec F S256x256 .f32) : FVec F S256x256 .f32 :=
  select (cmpi .sle (iota .tc S256x256 32 [0] iota_S256x256_d0_w32) (iota .tc S256x256 32 [1] iota_S256x256_d1_w32)) x
    (broadcast S256x256 (Scalar.ofBits .f32 0xFF800000#32))

/-- The scores of key block `j` for query block `i`. -/
def score (c : Fin 2) (i j : Fin 10) : FVec F S256x256 .f32 :=
  if j.val = i.val then hide (raw S c i j) else raw S c i j

/-- A block's greatest score per query. -/
def rowMax (x : FVec F S256x256 .f32) : FVec F S1x256 .f32 :=
  shapeCast S1x256 (multiReduction .maximumf [0] S256 x 0xFF800000#32 reduces_S256x256_S256 (.inl rfl) rfl) shapeCasts_S256_S1x256

/-- A block's sum per query. -/
def rowSum (x : FVec F S256x256 .f32) : FVec F S1x256 .f32 :=
  shapeCast S1x256 (multiReduction .add [0] S256 x 0x00000000#32 reduces_S256x256_S256 (.inl rfl) rfl) shapeCasts_S256_S1x256

/-- The greatest score over key blocks `0 … n`. -/
def maxTo (c : Fin 2) (i : Fin 10) : (n : ℕ) → n < 10 → FVec F S1x256 .f32
  | 0, h => rowMax (score S c i ⟨0, h⟩)
  | n + 1, h => maximumf (maxTo c i n (Nat.lt_of_succ_lt h)) (rowMax (score S c i ⟨n + 1, h⟩))

/-- The scratch after the scores of key blocks below `n` are stored. -/
def scored (c : Fin 2) (i : Fin 10) (L : XList F) : (n : ℕ) → n ≤ 10 → XList F
  | 0, _ => L
  | n + 1, h => ⟨xrect c ⟨n, h⟩, shapeCast S1x256x256 (score S c i ⟨n, h⟩) shapeCasts_S256x256_S1x256x256⟩ ::
      scored c i L n (Nat.le_of_succ_le h)

/-- The exponents' scale of a block of queries. -/
def fac (c : Fin 2) (i : Fin 10) : FVec F S1x256 .f32 :=
  mulf (shapeCast S1x256 (S.qs c i) shapeCasts_S1x1x1x256_S1x256) (broadcast S1x256 (Named.named κ "score_scale_log2e" 0x3E38AA3B#32))

/-- The weights of block `j`, from the scores as they are read back. -/
def wt (c : Fin 2) (i : Fin 10) (m : FVec F S1x256 .f32) (x : Vec F S1x256x256 .f32) : FVec F S256x256 .f32 :=
  exp2 (mulf (subf (shapeCast S256x256 x shapeCasts_S1x256x256_S256x256) (broadcastTo S256x256 m broadcasts_S1x256_S256x256))
    (broadcastTo S256x256 (fac S c i) broadcasts_S1x256_S256x256))

/-- The scratch after the weights of key blocks below `n` have replaced the scores. -/
def weighed (c : Fin 2) (i : Fin 10) (m : FVec F S1x256 .f32) (L : XList F) : (n : ℕ) → n ≤ 10 → XList F
  | 0, _ => L
  | n + 1, h => ⟨xrect c ⟨n, h⟩, shapeCast S1x256x256
        (wt S c i m (S.xs.readCov (weighed c i m L n (Nat.le_of_succ_le h)) (xrect c ⟨n, h⟩).toLoadRect)) shapeCasts_S256x256_S1x256x256⟩ ::
      weighed c i m L n (Nat.le_of_succ_le h)

/-- The weights of block `j`, as they were stored. -/
def wtAt (c : Fin 2) (i : Fin 10) (m : FVec F S1x256 .f32) (L : XList F) (n : ℕ) (h : n < 10) : FVec F S256x256 .f32 :=
  wt S c i m (S.xs.readCov (weighed S c i m L n (Nat.le_of_lt h)) (xrect c ⟨n, h⟩).toLoadRect)

/-- The sum of the weights over key blocks `0 … n`. -/
def sumTo (c : Fin 2) (i : Fin 10) (m : FVec F S1x256 .f32) (L : XList F) : (n : ℕ) → n < 10 → FVec F S1x256 .f32
  | 0, h => rowSum (wtAt S c i m L 0 h)
  | n + 1, h => addf (sumTo c i m L n (Nat.lt_of_succ_lt h)) (rowSum (wtAt S c i m L (n + 1) h))

/-- The greatest score of half `c` for query block `i`. -/
def maxOf (c : Fin 2) (i : Fin 10) : FVec F S1x256 .f32 := maxTo S c i i.val i.isLt

/-- The scratch with the scores of half `c` stored over `L`. -/
def scoredOf (c : Fin 2) (i : Fin 10) (L : XList F) : XList F := scored S c i L (i.val + 1) i.isLt

/-- The scratch with the weights of half `c` in place. -/
def halfOf (c : Fin 2) (i : Fin 10) (L : XList F) : XList F :=
  weighed S c i (maxOf S c i) (scoredOf S c i L) (i.val + 1) i.isLt

/-- The sum of the weights of half `c`. -/
def sumOf (c : Fin 2) (i : Fin 10) (L : XList F) : FVec F S1x256 .f32 :=
  sumTo S c i (maxOf S c i) (scoredOf S c i L) i.val i.isLt

/-- The scratch after query block `i`. -/
def after (i : Fin 10) (L : XList F) : XList F := halfOf S 1 i (halfOf S 0 i L)

/-- The scratch before query block `n`. -/
def before : (n : ℕ) → n ≤ 10 → XList F
  | 0, _ => []
  | n + 1, h => after S ⟨n, h⟩ (before n (Nat.le_of_succ_le h))

/-- A block of scores read back. -/
def xload (L : XList F) (c : Fin 2) (j : Fin 10) : FVec F S256x256 .f32 :=
  shapeCast S256x256 (S.xs.readCov L (xrect c j).toLoadRect) shapeCasts_S1x256x256_S256x256

/-- The combined weights of block `j` against its values. -/
def part (L : XList F) (coef : FVec F S1x256 .f32) (j : Fin 10) : FVec F S128x256 .f32 :=
  matmul dot_S128x256_S256x256_S128x256_1_0_0_1_n_n none (S.vt j)
    (truncf .bf16 (subf (xload S L 0 j) (mulf (broadcastTo S256x256 coef broadcasts_S1x256_S256x256) (xload S L 1 j))) bitsLt_bf16_f32)
    (constant S128x256 .f32 0x00000000#32)

/-- Their sum over key blocks `0 … n`. -/
def partTo (L : XList F) (coef : FVec F S1x256 .f32) : (n : ℕ) → n < 10 → FVec F S128x256 .f32
  | 0, h => part S L coef ⟨0, h⟩
  | n + 1, h => addf (partTo L coef n (Nat.lt_of_succ_lt h)) (part S L coef ⟨n + 1, h⟩)

/-- The end of a block: the first normaliser, the values' scale, the root-mean-square normalisation and the gain. -/
def finish (l0 : FVec F S1x256 .f32) (o : FVec F S128x256 .f32) : FVec F S1x256x128 .bf16 :=
  let o := mulf (mulf o (broadcastTo S128x256 (divf (broadcast S1x256 (Scalar.ofBits .f32 0x3F800000#32)) l0) broadcasts_S1x256_S128x256)) S.vs
  let ms := divf (shapeCast S1x256 (multiReduction .add [0] S256 (mulf o o) 0x00000000#32 reduces_S128x256_S256 (.inl rfl) rfl) shapeCasts_S256_S1x256)
    (broadcast S1x256 (Scalar.ofBits .f32 0x43000000#32))
  let y := mulf (mulf o (broadcastTo S128x256 (rsqrt (addf ms (broadcast S1x256 (Scalar.ofBits .f32 0x3727C5AC#32)))) broadcasts_S1x256_S128x256)) S.gain
  shapeCast S1x256x128 (truncf .bf16 (transpose S256x128 [1, 0] y transposes_S128x256_p1_0_S256x128) bitsLt_bf16_f32) shapeCasts_S256x128_S1x256x128

/-- What query block `i` stores into the output, the scratch before it being `L`. -/
def blockOut (i : Fin 10) (L : XList F) : FVec F S1x256x128 .bf16 :=
  let l0 := sumOf S 0 i L
  let coef := divf (mulf (broadcastTo S1x256 S.lam broadcasts_S1x1_S1x256) l0) (sumOf S 1 i (halfOf S 0 i L))
  finish S l0 (partTo S (after S i L) coef i.val i.isLt)

/-- The stores of query blocks below `n` into the output. -/
def stores : (n : ℕ) → n ≤ 10 → List (View.Piece (Elt F) S1x2560x128 .bf16)
  | 0, _ => []
  | n + 1, h => ⟨orect ⟨n, h⟩, blockOut S ⟨n, h⟩ (before S n (Nat.le_of_succ_le h))⟩ :: stores n (Nat.le_of_succ_le h)

end Cert.Attn

end
-- ==== Proof.ReadBack.lean ====
/-
  The scratch of the scores read back: a load of a block finds the last store made into that block, so that what a query
  block stores does not depend on the scratch it found.
-/
module

public import proofs.«01_k».proof.Proof.Loop
public import Idealize.ShloMosaic.Lib.Pipeline.ReadBack

@[expose] public section

noncomputable section

namespace Cert.Attn

open Idealize.ShloMosaic Idealize.SL.Sem Cert.KernelIdeal Cert.KernelIdeal.Gen

variable {F : FTy → Type} [FloatOps F] [Named F]

/-- Two different blocks of the scratch do not meet. -/
theorem xrect_disjoint {c c' : Fin 2} {j j' : Fin 10} (h : c ≠ c' ∨ j ≠ j') :
    Disjoint (xrect c j).set (xrect c' j').set := by
  rcases h with h | h
  · refine Rect.unit_disjoint (s := S2x2560x256) (0 : Fin 3) ?_
    have : c.val ≠ c'.val := fun e => h (Fin.ext e)
    show c.val + 1 ≤ c'.val ∨ c'.val + 1 ≤ c.val
    omega
  · refine Rect.unit_disjoint (s := S2x2560x256) (1 : Fin 3) ?_
    have : j.val ≠ j'.val := fun e => h (Fin.ext e)
    show 256 * j.val + 256 ≤ 256 * j'.val ∨ 256 * j'.val + 256 ≤ 256 * j.val
    omega

variable (S : Src F)

/-- A block of the scratch, after the stores `L`. -/
def rd (L : XList F) (c : Fin 2) (j : Fin 10) : Vec F S1x256x256 .f32 := S.xs.readCov L (xrect c j).toLoadRect

theorem rd_self (L : XList F) (c : Fin 2) (j : Fin 10) (w : Vec F S1x256x256 .f32) :
    rd S (⟨xrect c j, w⟩ :: L) c j = w := View.readCov_cons_toLoadRect S.xs (xrect c j) w L

theorem rd_other (L : XList F) {c c' : Fin 2} {j j' : Fin 10} (w : Vec F S1x256x256 .f32) (h : c ≠ c' ∨ j ≠ j') :
    rd S (⟨xrect c j, w⟩ :: L) c' j' = rd S L c' j' :=
  View.readCov_cons_of_disjoint S.xs ⟨xrect c j, w⟩ L _ (xrect_disjoint h)

/-- A block of scores, as a block of the scratch. -/
def blk (x : FVec F S256x256 .f32) : Vec F S1x256x256 .f32 := shapeCast S1x256x256 x shapeCasts_S256x256_S1x256x256

/-- The stores of the scores leave the other half alone; -/
theorem rd_scored_other {c c' : Fin 2} (h : c ≠ c') (i : Fin 10) (L : XList F) (j : Fin 10) :
    ∀ (n : ℕ) (hn : n ≤ 10), rd S (scored S c i L n hn) c' j = rd S L c' j
  | 0, _ => rfl
  | n + 1, hn => by
    rw [scored, rd_other S _ _ (.inl h)]
    exact rd_scored_other h i L j n _

/-- a block stored reads as it was stored. -/
theorem rd_scored (c : Fin 2) (i : Fin 10) (L : XList F) (j : Fin 10) :
    ∀ (n : ℕ) (hn : n ≤ 10), j.val < n → rd S (scored S c i L n hn) c j = blk (score S c i j)
  | 0, _, h => absurd h (Nat.not_lt_zero _)
  | n + 1, hn, h => by
    by_cases e : j.val = n
    · obtain rfl : j = ⟨n, hn⟩ := Fin.ext e
      rw [scored]; exact rd_self S _ _ _ _
    · rw [scored, rd_other S _ _ (.inr fun e' => e (congrArg Fin.val e').symm)]
      exact rd_scored c i L j n _ (by omega)

/-- The stores of the weights leave the other half alone; -/
theorem rd_weighed_other {c c' : Fin 2} (h : c ≠ c') (i : Fin 10) (m : FVec F S1x256 .f32) (L : XList F) (j : Fin 10) :
    ∀ (n : ℕ) (hn : n ≤ 10), rd S (weighed S c i m L n hn) c' j = rd S L c' j
  | 0, _ => rfl
  | n + 1, hn => by
    rw [weighed, rd_other S _ _ (.inl h)]
    exact rd_weighed_other h i m L j n _

/-- the blocks not reached yet are as before; -/
theorem rd_weighed_ge (c : Fin 2) (i : Fin 10) (m : FVec F S1x256 .f32) (L : XList F) (j : Fin 10) :
    ∀ (n : ℕ) (hn : n ≤ 10), n ≤ j.val → rd S (weighed S c i m L n hn) c j = rd S L c j
  | 0, _, _ => rfl
  | n + 1, hn, h => by
    rw [weighed, rd_other S _ _ (.inr fun e => by have := congrArg Fin.val e; simp only at this; omega)]
    exact rd_weighed_ge c i m L j n _ (by omega)

/-- and a block reached holds the weights made of the scores that were there. -/
theorem rd_weighed (c : Fin 2) (i : Fin 10) (m : FVec F S1x256 .f32) (L : XList F) (j : Fin 10) :
    ∀ (n : ℕ) (hn : n ≤ 10), j.val < n → rd S (weighed S c i m L n hn) c j = blk (wt S c i m (rd S L c j))
  | 0, _, h => absurd h (Nat.not_lt_zero _)
  | n + 1, hn, h => by
    by_cases e : j.val = n
    · obtain rfl : j = ⟨n, hn⟩ := Fin.ext e
      rw [weighed]
      refine (rd_self S _ _ _ _).trans ?_
      rw [← rd_weighed_ge S c i m L ⟨n, hn⟩ n (Nat.le_of_succ_le hn) (Nat.le_refl n)]
      rfl
    · rw [weighed, rd_other S _ _ (.inr fun e' => e (congrArg Fin.val e').symm)]
      exact rd_weighed c i m L j n _ (by omega)

/-- The weights of key block `j` for query block `i`. -/
def W (c : Fin 2) (i j : Fin 10) : FVec F S256x256 .f32 := wt S c i (maxOf S c i) (blk (score S c i j))

theorem wtAt_eq (c : Fin 2) (i : Fin 10) (L : XList F) (n : ℕ) (h : n < 10) (hi : n ≤ i.val) :
    wtAt S c i (maxOf S c i) (scoredOf S c i L) n h = W S c i ⟨n, h⟩ := by
  have e := rd_weighed_ge S c i (maxOf S c i) (scoredOf S c i L) ⟨n, h⟩ n (Nat.le_of_lt h) (Nat.le_refl n)
  have e' := rd_scored S c i L ⟨n, h⟩ (i.val + 1) i.isLt (Nat.lt_succ_of_le hi)
  rw [wtAt, W]
  exact congrArg (wt S c i (maxOf S c i)) (e.trans e')

/-- The sum of the weights over key blocks `0 … n`. -/
def wsum (c : Fin 2) (i : Fin 10) : (n : ℕ) → n < 10 → FVec F S1x256 .f32
  | 0, h => rowSum (W S c i ⟨0, h⟩)
  | n + 1, h => addf (wsum c i n (Nat.lt_of_succ_lt h)) (rowSum (W S c i ⟨n + 1, h⟩))

theorem sumTo_eq (c : Fin 2) (i : Fin 10) (L : XList F) : ∀ (n : ℕ) (h : n < 10) (_ : n ≤ i.val),
    sumTo S c i (maxOf S c i) (scoredOf S c i L) n h = wsum S c i n h
  | 0, h, hi => by rw [sumTo, wtAt_eq S c i L 0 h hi, wsum]
  | n + 1, h, hi => by
    rw [sumTo, wtAt_eq S c i L (n + 1) h hi, sumTo_eq c i L n _ (by omega), wsum]

theorem rd_after (i : Fin 10) (L : XList F) (c : Fin 2) (j : Fin 10) (hj : j.val ≤ i.val) :
    rd S (after S i L) c j = blk (W S c i j) := by
  have own : ∀ (c : Fin 2) (L : XList F), rd S (halfOf S c i L) c j = blk (W S c i j) := fun c L => by
    rw [halfOf, rd_weighed S c i _ _ j _ _ (Nat.lt_succ_of_le hj), scoredOf, rd_scored S c i L j _ _ (Nat.lt_succ_of_le hj), W]
  match c with
  | 0 =>
    rw [after, halfOf, rd_weighed_other S (by decide), scoredOf, rd_scored_other S (by decide)]
    exact own 0 L
  | 1 => exact own 1 _

/-- The combined weights of key block `j` against its values. -/
def P (coef : FVec F S1x256 .f32) (i j : Fin 10) : FVec F S128x256 .f32 :=
  matmul dot_S128x256_S256x256_S128x256_1_0_0_1_n_n none (S.vt j)
    (truncf .bf16 (subf (W S 0 i j) (mulf (broadcastTo S256x256 coef broadcasts_S1x256_S256x256) (W S 1 i j))) bitsLt_bf16_f32)
    (constant S128x256 .f32 0x00000000#32)

/-- Their sum over key blocks `0 … n`. -/
def Pto (coef : FVec F S1x256 .f32) (i : Fin 10) : (n : ℕ) → n < 10 → FVec F S128x256 .f32
  | 0, h => P S coef i ⟨0, h⟩
  | n + 1, h => addf (Pto coef i n (Nat.lt_of_succ_lt h)) (P S coef i ⟨n + 1, h⟩)

theorem part_eq (coef : FVec F S1x256 .f32) (i j : Fin 10) (L : XList F) (hj : j.val ≤ i.val) :
    part S (after S i L) coef j = P S coef i j := by
  have e : ∀ c, xload S (after S i L) c j = W S c i j := fun c => by
    rw [xload]
    refine (congrArg (fun x => shapeCast S256x256 x shapeCasts_S1x256x256_S256x256) (rd_after S i L c j hj)).trans ?_
    exact shapeCast_shapeCast _ _ _
  rw [part, e, e, P]

theorem partTo_eq (coef : FVec F S1x256 .f32) (i : Fin 10) (L : XList F) : ∀ (n : ℕ) (h : n < 10) (_ : n ≤ i.val),
    partTo S (after S i L) coef n h = Pto S coef i n h
  | 0, h, hi => by rw [partTo, part_eq S coef i _ L hi, Pto]
  | n + 1, h, hi => by
    rw [partTo, part_eq S coef i _ L hi, partTo_eq coef i L n _ (by omega), Pto]

/-- What query block `i` stores. -/
def outBlock (i : Fin 10) : FVec F S1x256x128 .bf16 :=
  finish S (wsum S 0 i i.val i.isLt) (Pto S (divf (mulf (broadcastTo S1x256 S.lam broadcasts_S1x1_S1x256) (wsum S 0 i i.val i.isLt))
    (wsum S 1 i i.val i.isLt)) i i.val i.isLt)

theorem blockOut_eq (i : Fin 10) (L : XList F) : blockOut S i L = outBlock S i := by
  rw [blockOut, outBlock]
  have e : ∀ c L, sumOf S c i L = wsum S c i i.val i.isLt := fun c L => sumTo_eq S c i L i.val i.isLt (Nat.le_refl _)
  simp only [e, partTo_eq S _ i L i.val i.isLt (Nat.le_refl _)]

/-- Two different blocks of the output do not meet. -/
theorem orect_disjoint {i j : Fin 10} (h : i ≠ j) : Disjoint (orect i).set (orect j).set := by
  refine Rect.unit_disjoint (s := S1x2560x128) (1 : Fin 3) ?_
  have : i.val ≠ j.val := fun e => h (Fin.ext e)
  show 256 * i.val + 256 ≤ 256 * j.val ∨ 256 * j.val + 256 ≤ 256 * i.val
  omega

/-- The output after query blocks below `n`: in the rows of block `i` stands that block. -/
theorem canon_stores (i : Fin 10) (x : (orect i).shape.Idx) : ∀ (n : ℕ) (hn : n ≤ 10), i.val < n →
    View.canon (stores S n hn) ((orect i).emb x) = outBlock S i x
  | 0, _, h => absurd h (Nat.not_lt_zero _)
  | n + 1, hn, h => by
    by_cases e : i.val = n
    · obtain rfl : i = ⟨n, hn⟩ := Fin.ext e
      rw [stores]
      exact (View.canon_cons_emb (orect ⟨n, hn⟩) _ _ x).trans (congrFun (blockOut_eq S _ _) x)
    · rw [stores, View.canon_cons_of_not_mem]
      · exact canon_stores i x n _ (by omega)
      · exact Finset.disjoint_right.mp (orect_disjoint fun e' => e (congrArg Fin.val e').symm) ((orect i).toLoadRect.idx_mem x)

end Cert.Attn

end
-- ==== Proof.Algebra.lean ====
/-
  The equation of extended reals behind the claim, with no program in it: one query row of differential attention,
  written the way the kernel computes it and the way the reference does, for ANY scores, values and scales (infinite
  ones included) as long as the scale of the query's codes is a positive real.
-/
module

public import Idealize.ShloMosaic.PureOps.Ideal
public import Idealize.ShloMosaic.PureOps.Ideal.Laws

@[expose] public section

noncomputable section

namespace Cert.Attn

open Idealize.ShloMosaic

variable {ι κ : Type} [Fintype ι] [Fintype κ]

/-- The greatest of finitely many scores. -/
def top (x : ι → EReal) : EReal := Finset.univ.sup x

/-- The kernel's unnormalised weight of key `j`: two to the power of the distance to the greatest score, scaled. -/
def kexp (x : ι → EReal) (f : EReal) (j : ι) : EReal := Ideal.exp2 ((x j - top x) * f)

/-- The reference's unnormalised weight of key `j`. -/
def rexp (t : ι → EReal) (j : ι) : EReal := Ideal.exp (t j - top t)

/-- Multiplying by a positive real distributes over a finite sum. -/
theorem coe_mul_sum {p : ℝ} (hp : 0 ≤ p) (s : Finset ι) (f : ι → EReal) :
    (p : EReal) * ∑ j ∈ s, f j = ∑ j ∈ s, (p : EReal) * f j := by
  classical
  induction s using Finset.induction_on with
  | empty => simp
  | insert a s ha ih => rw [Finset.sum_insert ha, Finset.sum_insert ha, EReal.left_distrib_of_nonneg_of_ne_top (EReal.coe_nonneg.2 hp) (EReal.coe_ne_top p), ih]

theorem coe_mul_sub {p : ℝ} (hp : 0 ≤ p) (x y : EReal) : (p : EReal) * (x - y) = p * x - p * y := by
  rw [sub_eq_add_neg, EReal.left_distrib_of_nonneg_of_ne_top (EReal.coe_nonneg.2 hp) (EReal.coe_ne_top p), mul_neg, ← sub_eq_add_neg]

theorem coe_mul_top {p : ℝ} (hp : 0 < p) (x : ι → EReal) : top (fun j => (p : EReal) * x j) = p * top x := by
  unfold top
  refine (Finset.comp_sup_eq_sup_comp (fun y : EReal => (p : EReal) * y) ?_ ?_).symm
  · intro a b
    exact (monotone_mul_left_of_nonneg (EReal.coe_nonneg.2 hp.le)).map_sup a b
  · exact EReal.coe_mul_bot_of_pos hp

/-- The natural exponential of `p · d` is the power of two at `d · (p / log 2)`. -/
theorem exp_mul_eq {p : ℝ} (hp : 0 < p) (d : EReal) :
    Ideal.exp ((p : EReal) * d) = Ideal.exp2 (d * ((p * (Real.log 2)⁻¹ : ℝ) : EReal)) := by
  have hl : 0 < Real.log 2 := Real.log_pos (by norm_num)
  have hq : 0 < p * (Real.log 2)⁻¹ := mul_pos hp (inv_pos.2 hl)
  induction d with
  | bot => rw [EReal.coe_mul_bot_of_pos hp, EReal.bot_mul_coe_of_pos hq]; rfl
  | top => rw [EReal.coe_mul_top_of_pos hp, EReal.top_mul_coe_of_pos hq]; rfl
  | coe d =>
    rw [← EReal.coe_mul, ← EReal.coe_mul, Ideal.exp_coe, Ideal.exp2_coe]
    refine congrArg _ ?_
    show Real.exp (p * d) = (2 : ℝ) ^ (d * (p * (Real.log 2)⁻¹) : ℝ)
    rw [Real.rpow_def_of_pos (by norm_num)]
    congr 1
    field_simp

/-- The two softmaxes take the same unnormalised weights, when the reference's scores are `p` times the kernel's. -/
theorem rexp_eq_kexp {p : ℝ} (hp : 0 < p) (x : ι → EReal) (j : ι) :
    rexp (fun j => (p : EReal) * x j) j = kexp x ((p * (Real.log 2)⁻¹ : ℝ) : EReal) j := by
  unfold rexp kexp
  rw [coe_mul_top hp, ← coe_mul_sub hp.le, exp_mul_eq hp]

/-- An unnormalised weight is a nonnegative real, whatever the scores. -/
theorem kexp_real {p : ℝ} (hp : 0 < p) (x : ι → EReal) (j : ι) : ∃ r : ℝ, 0 ≤ r ∧ kexp x (p : EReal) j = r := by
  have hle : x j ≤ top x := Finset.le_sup (f := x) (Finset.mem_univ j)
  unfold kexp
  generalize top x = m at *
  generalize x j = y at *
  have hzero : ∀ z : EReal, z = ⊥ → ∃ r : ℝ, 0 ≤ r ∧ Ideal.exp2 (z * (p : EReal)) = r := by
    rintro z rfl
    exact ⟨0, le_rfl, by rw [EReal.bot_mul_coe_of_pos hp]; rfl⟩
  induction m with
  | bot => exact hzero _ (by rw [le_bot_iff.1 hle]; rfl)
  | top => exact hzero _ (by rw [sub_eq_add_neg, EReal.neg_top, EReal.add_bot])
  | coe m =>
    induction y with
    | bot => exact hzero _ (by rw [sub_eq_add_neg, EReal.bot_add])
    | top => exact absurd hle (by simp)
    | coe y =>
      refine ⟨Real.rpow 2 ((y - m) * p), Real.rpow_nonneg (by norm_num) _, ?_⟩
      rw [← EReal.coe_sub, ← EReal.coe_mul, Ideal.exp2_coe]

/-- The weighted row before the normalisation, as the kernel computes it. -/
def kout (e0 e1 : ι → EReal) (lam : EReal) (v : ι → κ → EReal) (vs : κ → EReal) (d : κ) : EReal :=
  (∑ j, v j d * (e0 j - Ideal.div (lam * ∑ j, e0 j) (∑ j, e1 j) * e1 j)) * Ideal.div 1 (∑ j, e0 j) * vs d

/-- The weighted row before the normalisation, as the reference computes it. -/
def rout (e0 e1 : ι → EReal) (lam : EReal) (v : ι → κ → EReal) (vs : κ → EReal) (d : κ) : EReal :=
  (∑ j, (Ideal.div (e0 j) (∑ j, e0 j) - e1 j * Ideal.div lam (∑ j, e1 j)) * v j d) * vs d

/-- Root-mean-square normalisation of a row, with a gain per channel. -/
def rms (c eps : EReal) (g : κ → EReal) (o : κ → EReal) (d : κ) : EReal :=
  o d * Ideal.rsqrt (Ideal.div (∑ d, o d * o d) c + eps) * g d

/-- A finite sum of reals, read in the extended reals. -/
theorem coe_sum' (r : ι → ℝ) : ∑ j, (r j : EReal) = ((∑ j, r j : ℝ) : EReal) := by
  classical
  generalize (Finset.univ : Finset ι) = s
  induction s using Finset.induction_on with
  | empty => simp
  | insert a s ha ih => rw [Finset.sum_insert ha, Finset.sum_insert ha, EReal.coe_add, ih]

theorem div_coe {L : ℝ} (hL : L ≠ 0) (x : EReal) : Ideal.div x (L : EReal) = x * ((L⁻¹ : ℝ) : EReal) := by
  unfold Ideal.div
  rw [if_neg (by simpa using hL), EReal.coe_inv]

/-- The values an infinite weight can leave: nothing but the infinities and zero. -/
def Ext (x : EReal) : Prop := x = ⊤ ∨ x = ⊥ ∨ x = 0

theorem Ext.add {x y : EReal} (hx : Ext x) (hy : Ext y) : Ext (x + y) := by
  rcases hx with rfl | rfl | rfl <;> rcases hy with rfl | rfl | rfl <;> simp [Ext]

theorem ext_bot_mul (x : EReal) : Ext (⊥ * x) := by
  rcases lt_trichotomy x 0 with h | rfl | h
  · exact .inl (EReal.bot_mul_of_neg h)
  · exact .inr (.inr (mul_zero _))
  · exact .inr (.inl (EReal.bot_mul_of_pos h))

theorem Ext.mul {x : EReal} (hx : Ext x) (y : EReal) : Ext (x * y) := by
  rcases hx with rfl | rfl | rfl
  · rcases lt_trichotomy y 0 with h | rfl | h
    · exact .inr (.inl (EReal.top_mul_of_neg h))
    · exact .inr (.inr (mul_zero _))
    · exact .inl (EReal.top_mul_of_pos h)
  · exact ext_bot_mul y
  · exact .inr (.inr (zero_mul _))

theorem Ext.sum {f : ι → EReal} (h : ∀ j, Ext (f j)) : Ext (∑ j, f j) :=
  Finset.sum_induction f Ext (fun _ _ => Ext.add) (.inr (.inr rfl)) fun j _ => h j

/-- A row of infinities and zeros normalises to zero: an infinite entry makes the mean square infinite, and its
    reciprocal root zero. -/
theorem rms_ext {c eps : ℝ} (hc : 0 < c) (g : κ → EReal) (o : κ → EReal) (h : ∀ d, Ext (o d)) (d : κ) :
    rms c eps g o d = 0 := by
  have hsq : ∀ x : EReal, Ext x → 0 ≤ x * x := by
    rintro x (rfl | rfl | rfl) <;> simp
  have hinf : ∀ x : EReal, x ≠ 0 → Ext x → x * x = ⊤ := by
    rintro x hx (rfl | rfl | rfl)
    · simp
    · simp
    · exact absurd rfl hx
  unfold rms
  by_cases h0 : o d = 0
  · rw [h0]; simp
  · have : ∑ d, o d * o d = ⊤ := by
      have hge := Finset.single_le_sum (f := fun d => o d * o d) (fun i _ => hsq _ (h i)) (Finset.mem_univ d)
      rw [show o d * o d = ⊤ from hinf _ h0 (h d)] at hge
      exact top_le_iff.1 hge
    rw [this, div_coe hc.ne', EReal.top_mul_coe_of_pos (inv_pos.2 hc), EReal.top_add_coe, Ideal.rsqrt_top]
    simp

/-- THE EQUATION. The kernel's row and the reference's, normalised, agree for all nonnegative real weights (their sums
    may vanish) and any other data. -/
theorem rms_kout_eq_rout {c eps : ℝ} (hc : 0 < c) (g : κ → EReal) (r0 r1 : ι → ℝ) (h0 : ∀ j, 0 ≤ r0 j) (h1 : ∀ j, 0 ≤ r1 j)
    (lam : EReal) (v : ι → κ → EReal) (vs : κ → EReal) (d : κ) :
    rms c eps g (kout (fun j => (r0 j : EReal)) (fun j => (r1 j : EReal)) lam v vs) d
      = rms c eps g (rout (fun j => (r0 j : EReal)) (fun j => (r1 j : EReal)) lam v vs) d := by
  have hL0 : 0 ≤ ∑ j, r0 j := Finset.sum_nonneg fun j _ => h0 j
  have hz0 : ∑ j, r0 j = 0 → ∀ j, r0 j = 0 := fun h j =>
    (Finset.sum_eq_zero_iff_of_nonneg fun j _ => h0 j).1 h j (Finset.mem_univ j)
  have hz1 : ∑ j, r1 j = 0 → ∀ j, r1 j = 0 := fun h j =>
    (Finset.sum_eq_zero_iff_of_nonneg fun j _ => h1 j).1 h j (Finset.mem_univ j)
  rcases hL0.eq_or_lt with hL | hL
  · -- no key has a finite distance to the greatest score: both rows normalise to zero
    have hr : ∀ j, r0 j = 0 := hz0 hL.symm
    have hk : ∀ d, kout (fun j => (r0 j : EReal)) (fun j => (r1 j : EReal)) lam v vs d = 0 := by
      intro d
      unfold kout
      rw [coe_sum', coe_sum', ← hL]
      have : ∀ j, v j d * ((r0 j : EReal) - Ideal.div (lam * ((0 : ℝ) : EReal)) ((∑ j, r1 j : ℝ) : EReal) * (r1 j : EReal)) = 0 := by
        intro j
        rw [hr j]
        rcases eq_or_ne (∑ j, r1 j) 0 with hL1 | hL1
        · rw [hz1 hL1 j]; simp
        · rw [div_coe hL1]; simp
      rw [Finset.sum_eq_zero fun j _ => this j]
      simp
    have hro : ∀ d, Ext (rout (fun j => (r0 j : EReal)) (fun j => (r1 j : EReal)) lam v vs d) := by
      intro d
      unfold rout
      rw [coe_sum', ← hL]
      refine Ext.mul (Ext.sum fun j => ?_) _
      show Ext ((Ideal.div (r0 j : EReal) ((0 : ℝ) : EReal) - (r1 j : EReal) * _) * v j d)
      rw [hr j]
      have : Ideal.div ((0 : ℝ) : EReal) ((0 : ℝ) : EReal) = ⊥ := by simp [Ideal.div]
      rw [this, sub_eq_add_neg, EReal.bot_add]
      exact ext_bot_mul _
    rw [rms_ext hc g _ hro]
    unfold rms
    rw [hk d]
    simp
  · -- the weights' sum is a positive real, which moves through the sum over the keys
    have hko : kout (fun j => (r0 j : EReal)) (fun j => (r1 j : EReal)) lam v vs
        = rout (fun j => (r0 j : EReal)) (fun j => (r1 j : EReal)) lam v vs := by
      funext d
      unfold kout rout
      rw [coe_sum', coe_sum']
      set L0 : ℝ := ∑ j, r0 j with hL0d
      have hA : ∀ j, (r0 j : EReal) - Ideal.div (lam * (L0 : EReal)) ((∑ j, r1 j : ℝ) : EReal) * (r1 j : EReal)
          = (L0 : EReal) * (Ideal.div (r0 j : EReal) (L0 : EReal) - (r1 j : EReal) * Ideal.div lam ((∑ j, r1 j : ℝ) : EReal)) := by
        intro j
        rw [coe_mul_sub hL.le, div_coe hL.ne', ← EReal.coe_mul, ← EReal.coe_mul,
          show L0 * (r0 j * L0⁻¹) = r0 j by field_simp]
        congr 1
        rcases eq_or_ne (∑ j, r1 j) 0 with hL1 | hL1
        · rw [hz1 hL1 j]; simp
        · rw [div_coe hL1, div_coe hL1]
          ac_rfl
      have hS : ∑ j, v j d * ((r0 j : EReal) - Ideal.div (lam * (L0 : EReal)) ((∑ j, r1 j : ℝ) : EReal) * (r1 j : EReal))
          = (L0 : EReal) * ∑ j, (Ideal.div (r0 j : EReal) (L0 : EReal) - (r1 j : EReal) * Ideal.div lam ((∑ j, r1 j : ℝ) : EReal)) * v j d := by
        rw [coe_mul_sum hL.le]
        refine Finset.sum_congr rfl fun j _ => ?_
        rw [hA]
        ac_rfl
      rw [hS, div_coe hL.ne', one_mul, mul_comm (L0 : EReal), mul_assoc (∑ j, _), ← EReal.coe_mul, mul_inv_cancel₀ hL.ne']
      simp
    rw [hko]

/-- The equation over scores: the reference's scores are `p` times the kernel's `x`, the kernel's exponent scale is
    `p / log 2`. -/
theorem row_eq {c eps : ℝ} (hc : 0 < c) (g : κ → EReal) {p0 p1 : ℝ} (hp0 : 0 < p0) (hp1 : 0 < p1) (x0 x1 : ι → EReal)
    (lam : EReal) (v : ι → κ → EReal) (vs : κ → EReal) (d : κ) :
    rms c eps g (kout (kexp x0 ((p0 * (Real.log 2)⁻¹ : ℝ) : EReal)) (kexp x1 ((p1 * (Real.log 2)⁻¹ : ℝ) : EReal)) lam v vs) d
      = rms c eps g (rout (rexp fun j => (p0 : EReal) * x0 j) (rexp fun j => (p1 : EReal) * x1 j) lam v vs) d := by
  have hl : 0 < (Real.log 2)⁻¹ := inv_pos.2 (Real.log_pos (by norm_num))
  choose r0 h0 e0 using kexp_real (mul_pos hp0 hl) x0
  choose r1 h1 e1 using kexp_real (mul_pos hp1 hl) x1
  rw [show rexp (fun j => (p0 : EReal) * x0 j) = fun j => (r0 j : EReal) from funext fun j => (rexp_eq_kexp hp0 x0 j).trans (e0 j),
    show rexp (fun j => (p1 : EReal) * x1 j) = fun j => (r1 j : EReal) from funext fun j => (rexp_eq_kexp hp1 x1 j).trans (e1 j),
    show kexp x0 _ = fun j => (r0 j : EReal) from funext e0, show kexp x1 _ = fun j => (r1 j : EReal) from funext e1]
  exact rms_kout_eq_rout hc g r0 r1 h0 h1 lam v vs d

end Cert.Attn

end
-- ==== Proof.Tile.lean ====
/-
  What one query block stores, on extended reals: every row is a row of differential attention over ALL the keys, as
  `Algebra.lean` writes it for the kernel, the keys after the query having the score `⊥`.
-/
module

public import proofs.«01_k».proof.Proof.ReadBack
public import proofs.«01_k».proof.Proof.Algebra
public import Idealize.ShloMosaic.Lib.Pointwise

@[expose] public section

set_option maxRecDepth 16384

noncomputable section

namespace Cert.Attn

open Idealize.ShloMosaic Idealize.SL.Sem Cert.KernelIdeal Cert.KernelIdeal.Gen

/-- Row `r` of block `j`. -/
def at' (j : Fin 10) (r : Fin 256) : Fin 2560 := ⟨256 * j.val + r.val, by omega⟩

/-- The numbers of one batch entry and head: the weight of the second softmax, the gain and the value scale of each
    channel, the scales of the queries and of the keys, the products of keys with queries, and the values. -/
structure Num where
  lam : EReal
  gain : Fin 128 → EReal
  vs : Fin 128 → EReal
  qs : Fin 2 → Fin 2560 → EReal
  ks : Fin 2 → Fin 2560 → EReal
  dot : Fin 2 → Fin 2560 → Fin 2560 → EReal
  v : Fin 2560 → Fin 128 → EReal

/-- The masked score of key `k` for query `q`, without the query's own scale. -/
def Num.score (N : Num) (c : Fin 2) (q k : Fin 2560) : EReal := if k.val ≤ q.val then N.dot c k q * N.ks c k else ⊥

/-- The named constant of the kernel: the scores' scale over `log 2`. -/
def scale2 : EReal := (Named.named κ "score_scale_log2e" 0x3E38AA3B#32 : Ideal .f32)

/-- The number under the root-mean-square's sum. -/
def width : EReal := Ideal.ofBits .f32 0x43000000#32

/-- The number added under its root. -/
def eps : EReal := Ideal.ofBits .f32 0x3727C5AC#32

/-- The weights the kernel gives the keys of query `q`. -/
def Num.weights (N : Num) (c : Fin 2) (q : Fin 2560) : Fin 2560 → EReal := kexp (N.score c q) (N.qs c q * scale2)

/-- The kernel's result for query `q`, channel `d`. -/
def Num.kernel (N : Num) (q : Fin 2560) (d : Fin 128) : EReal :=
  rms width eps N.gain (kout (N.weights 0 q) (N.weights 1 q) N.lam N.v N.vs) d

/-- That the loops' inputs hold these numbers. -/
structure Reads (S : Src Ideal) (N : Num) : Prop where
  lam : S.lam (ix2 0 0) = N.lam
  gain : ∀ (d : Fin 128) (s : Fin 256), S.gain (ix2 d s) = N.gain d
  vs : ∀ (d : Fin 128) (s : Fin 256), S.vs (ix2 d s) = N.vs d
  qs : ∀ (c : Fin 2) (i : Fin 10) (s : Fin 256), S.qs c i (ix4 0 0 0 s) = N.qs c (at' i s)
  kcol : ∀ (c : Fin 2) (j : Fin 10) (r : Fin 256) (l : Fin 128), S.kcol c j (ix3 0 r l) = N.ks c (at' j r)
  dot : ∀ (c : Fin 2) (i j : Fin 10) (r s : Fin 256),
    ∑ l : Fin 128, S.key c j (ix2 r l) * S.qry c i (ix3 0 s l) = N.dot c (at' j r) (at' i s)
  vt : ∀ (j : Fin 10) (d : Fin 128) (r : Fin 256), S.vt j (ix2 d r) = N.v (at' j r) d

/-! ## The keys by blocks -/

/-- A sum over the keys, block by block. -/
theorem sum_blocks (f : Fin 2560 → EReal) : ∑ k, f k = ∑ j : Fin 10, ∑ r : Fin 256, f (at' j r) := by
  rw [← Fintype.sum_prod_type', ← Equiv.sum_comp (finProdFinEquiv (m := 10) (n := 256))]
  refine Finset.sum_congr rfl fun p _ => congrArg f (Fin.ext ?_)
  show p.2.val + 256 * p.1.val = 256 * p.1.val + p.2.val
  omega

/-- A running sum over blocks, the blocks after `i` adding nothing. -/
theorem running_sum {M : ℕ} (p : (n : ℕ) → n < M → EReal) (g : Fin M → EReal) (h0 : ∀ h, p 0 h = g ⟨0, h⟩) (i : Fin M)
    (hs : ∀ n h, n + 1 ≤ i.val → p (n + 1) h = p n (Nat.lt_of_succ_lt h) + g ⟨n + 1, h⟩)
    (hz : ∀ j, i < j → g j = 0) : p i.val i.isLt = ∑ j, g j := by
  have key : ∀ n h, n ≤ i.val → p n h = ∑ j ∈ Finset.univ.filter (fun j : Fin M => j.val ≤ n), g j := by
    intro n
    induction n with
    | zero =>
      intro h _
      have e : Finset.univ.filter (fun j : Fin M => j.val ≤ 0) = {⟨0, h⟩} := by
        ext j; simp only [Finset.mem_filter, Finset.mem_univ, true_and, Finset.mem_singleton, Fin.ext_iff]; omega
      rw [h0, e, Finset.sum_singleton]
    | succ n ih =>
      intro h hn
      have e : Finset.univ.filter (fun j : Fin M => j.val ≤ n + 1)
          = insert ⟨n + 1, h⟩ (Finset.univ.filter (fun j : Fin M => j.val ≤ n)) := by
        ext j; simp only [Finset.mem_filter, Finset.mem_univ, true_and, Finset.mem_insert, Fin.ext_iff]; omega
      have e' : (⟨n + 1, h⟩ : Fin M) ∉ Finset.univ.filter (fun j : Fin M => j.val ≤ n) := by
        simp only [Finset.mem_filter, Finset.mem_univ, true_and]; omega
      rw [hs _ _ hn, ih _ (by omega), e, Finset.sum_insert e', add_comm]
  rw [key _ _ (Nat.le_refl _)]
  refine Finset.sum_subset (Finset.subset_univ _) fun j _ hj => hz j ?_
  simp only [Finset.mem_filter, Finset.mem_univ, true_and, not_le] at hj
  exact hj

/-- A running maximum over the blocks, the scores of the blocks after `i` being `⊥`. -/
theorem running_max (p : (n : ℕ) → n < 10 → EReal) (x : Fin 2560 → EReal)
    (h0 : ∀ h, p 0 h = Finset.univ.sup fun r => x (at' ⟨0, h⟩ r)) (i : Fin 10)
    (hs : ∀ n h, n + 1 ≤ i.val → p (n + 1) h = max (p n (Nat.lt_of_succ_lt h)) (Finset.univ.sup fun r => x (at' ⟨n + 1, h⟩ r)))
    (hz : ∀ j r, i < j → x (at' j r) = ⊥) : p i.val i.isLt = top x := by
  have le : ∀ n h, n ≤ i.val → p n h ≤ top x := by
    intro n
    induction n with
    | zero => intro h _; rw [h0]; exact Finset.sup_le fun r _ => Finset.le_sup (f := x) (Finset.mem_univ _)
    | succ n ih =>
      intro h hi
      rw [hs _ _ hi]
      exact max_le (ih _ (by omega)) (Finset.sup_le fun r _ => Finset.le_sup (f := x) (Finset.mem_univ _))
  have ge : ∀ n h, n ≤ i.val → ∀ (j : Fin 10) (r : Fin 256), j.val ≤ n → x (at' j r) ≤ p n h := by
    intro n
    induction n with
    | zero =>
      intro h _ j r hj
      obtain rfl : j = ⟨0, h⟩ := Fin.ext (by simpa using hj)
      rw [h0]; exact Finset.le_sup (f := fun r => x (at' ⟨0, h⟩ r)) (Finset.mem_univ r)
    | succ n ih =>
      intro h hi j r hj
      rw [hs _ _ hi]
      rcases Nat.lt_or_ge n j.val with hn | hn
      · obtain rfl : j = ⟨n + 1, h⟩ := Fin.ext (by simp only; omega)
        exact le_max_of_le_right (Finset.le_sup (f := fun r => x (at' ⟨n + 1, h⟩ r)) (Finset.mem_univ r))
      · exact le_max_of_le_left (ih _ (by omega) j r hn)
  refine le_antisymm (le _ _ (Nat.le_refl _)) (Finset.sup_le fun k _ => ?_)
  obtain ⟨j, r, rfl⟩ : ∃ j r, k = at' j r := ⟨⟨k.val / 256, by omega⟩, ⟨k.val % 256, by omega⟩, Fin.ext (by simp only [at']; omega)⟩
  rcases Nat.lt_or_ge i.val j.val with hij | hij
  · rw [hz j r hij]; exact bot_le
  · exact ge _ _ (Nat.le_refl _) j r hij

/-! ## The operations of the loops, at an index -/

theorem ofBits_bot : Ideal.ofBits .f32 0xFF800000#32 = ⊥ := by
  simp [Ideal.ofBits, Ideal.ieee]

theorem sle_words (r s : Fin 256) : IntOp.cmpi .sle (BitVec.ofNat 32 r.val) (BitVec.ofNat 32 s.val) = if r.val ≤ s.val then 1#1 else 0#1 := by
  have e : ∀ n : Fin 256, (BitVec.ofNat 32 n.val).toInt = n.val := fun n => by
    rw [BitVec.toInt_eq_toNat_cond, BitVec.toNat_ofNat, Nat.mod_eq_of_lt (by have := n.isLt; omega), if_pos (by have := n.isLt; omega)]
  by_cases h : r.val ≤ s.val
  · rw [if_pos h, IntOp.cmpi]
    simp [IntOp.cmpi, BitVec.sle, e, h]
  · rw [if_neg h, IntOp.cmpi]
    simp [BitVec.sle, e, h]

theorem hide_apply (x : FVec Ideal S256x256 .f32) (r s : Fin 256) :
    hide x (ix2 r s) = if r.val ≤ s.val then x (ix2 r s) else ⊥ := by
  pointwise [hide]
  rw [sle_words]
  by_cases h : r.val ≤ s.val
  · simp [h, Scalar.select]
  · simp [h, Scalar.select, ofBits_bot]

theorem rowMax_apply (x : FVec Ideal S256x256 .f32) (s : Fin 256) :
    rowMax x (ix2 0 s) = Finset.univ.sup fun r : Fin 256 => x (ix2 r s) := by
  pointwise [rowMax]
  rw [show Ideal.ofBits FTy.f32 4286578688#32 = ⊥ from ofBits_bot]
  rfl

theorem rowSum_apply (x : FVec Ideal S256x256 .f32) (s : Fin 256) :
    rowSum x (ix2 0 s) = ∑ r : Fin 256, x (ix2 r s) := by
  pointwise [rowSum]

variable {S : Src Ideal} {N : Num} (R : Reads S N)
include R

theorem raw_apply (c : Fin 2) (i j : Fin 10) (r s : Fin 256) :
    raw S c i j (ix2 r s) = N.dot c (at' j r) (at' i s) * N.ks c (at' j r) := by
  pointwise [raw]
  rw [R.dot]
  split <;> rw [R.kcol]

theorem score_apply (c : Fin 2) (i j : Fin 10) (hj : j.val ≤ i.val) (r s : Fin 256) :
    score S c i j (ix2 r s) = N.score c (at' i s) (at' j r) := by
  rw [score, Num.score]
  by_cases h : j.val = i.val
  · rw [if_pos h, hide_apply, raw_apply R]
    refine if_congr ?_ rfl rfl
    simp only [at', h]; omega
  · rw [if_neg h, raw_apply R, if_pos (by simp only [at']; omega)]

theorem score_later (c : Fin 2) (i j : Fin 10) (h : i < j) (r s : Fin 256) : N.score c (at' i s) (at' j r) = ⊥ := by
  rw [Num.score, if_neg]
  have : i.val < j.val := h
  simp only [at']; omega

theorem maxOf_apply (c : Fin 2) (i : Fin 10) (s : Fin 256) : maxOf S c i (ix2 0 s) = top (N.score c (at' i s)) := by
  refine running_max (fun n h => maxTo S c i n h (ix2 0 s)) (N.score c (at' i s)) (fun h => ?_) i (fun n h hn => ?_)
    fun j r hij => score_later R c i j hij r s
  · rw [maxTo, rowMax_apply]
    exact Finset.sup_congr rfl fun r _ => score_apply R c i _ (Nat.zero_le _) r s
  · rw [maxTo]
    refine congrArg (max _) ((rowMax_apply _ s).trans ?_)
    exact Finset.sup_congr rfl fun r _ => score_apply R c i _ hn r s

theorem W_apply (c : Fin 2) (i j : Fin 10) (hj : j.val ≤ i.val) (r s : Fin 256) :
    W S c i j (ix2 r s) = N.weights c (at' i s) (at' j r) := by
  rw [W, Num.weights, kexp]
  pointwise [wt, blk, fac]
  rw [maxOf_apply R, score_apply R c i j hj, R.qs]
  rfl

variable (hf : ∀ c q, 0 < N.qs c q * scale2)
include hf

theorem weights_later (c : Fin 2) (i j : Fin 10) (h : i < j) (r s : Fin 256) : N.weights c (at' i s) (at' j r) = 0 := by
  rw [Num.weights, kexp, score_later R c i j h, EReal.bot_sub, EReal.bot_mul_of_pos (hf _ _)]
  rfl

theorem wsum_apply (c : Fin 2) (i : Fin 10) (s : Fin 256) :
    wsum S c i i.val i.isLt (ix2 0 s) = ∑ k, N.weights c (at' i s) k := by
  have e : ∀ (n : ℕ) (h : n < 10), n ≤ i.val → rowSum (W S c i ⟨n, h⟩) (ix2 0 s) = ∑ r, N.weights c (at' i s) (at' ⟨n, h⟩ r) :=
    fun n h hn => (rowSum_apply _ s).trans (Finset.sum_congr rfl fun r _ => W_apply R c i ⟨n, h⟩ hn r s)
  rw [sum_blocks]
  refine running_sum (fun n h => wsum S c i n h (ix2 0 s)) (fun j => ∑ r, N.weights c (at' i s) (at' j r)) (fun h => ?_) i
    (fun n h hn => ?_) fun j hij => Finset.sum_eq_zero fun r _ => weights_later R hf c i j hij r s
  · rw [wsum]; exact e 0 h (Nat.zero_le _)
  · rw [wsum]; exact congrArg (_ + ·) (e _ h hn)

/-- The products with the values, summed over all the keys. -/
theorem Pto_apply (coef : FVec Ideal S1x256 .f32) (i : Fin 10) (d : Fin 128) (s : Fin 256) :
    Pto S coef i i.val i.isLt (ix2 d s)
      = ∑ k, N.v k d * (N.weights 0 (at' i s) k - coef (ix2 0 s) * N.weights 1 (at' i s) k) := by
  have e : ∀ (n : ℕ) (h : n < 10), n ≤ i.val → P S coef i ⟨n, h⟩ (ix2 d s) = ∑ r, N.v (at' ⟨n, h⟩ r) d *
      (N.weights 0 (at' i s) (at' ⟨n, h⟩ r) - coef (ix2 0 s) * N.weights 1 (at' i s) (at' ⟨n, h⟩ r)) := by
    intro n h hn
    pointwise [P]
    exact Finset.sum_congr rfl fun r _ => by rw [R.vt, W_apply R 0 i ⟨n, h⟩ hn, W_apply R 1 i ⟨n, h⟩ hn]
  rw [sum_blocks]
  refine running_sum (fun n h => Pto S coef i n h (ix2 d s)) (fun j => ∑ r, N.v (at' j r) d *
      (N.weights 0 (at' i s) (at' j r) - coef (ix2 0 s) * N.weights 1 (at' i s) (at' j r))) (fun h => ?_) i
    (fun n h hn => ?_) fun j hij => Finset.sum_eq_zero fun r _ => ?_
  · rw [Pto]; exact e 0 h (Nat.zero_le _)
  · rw [Pto]; exact congrArg (_ + ·) (e _ h hn)
  · rw [weights_later R hf 0 i j hij, weights_later R hf 1 i j hij, mul_zero, sub_zero, mul_zero]

omit R hf in
theorem finish_apply (l0 : FVec Ideal S1x256 .f32) (o : FVec Ideal S128x256 .f32) (s : Fin 256) (d : Fin 128)
    (gain : Fin 128 → EReal) (hg : ∀ d, S.gain (ix2 d s) = gain d) :
    finish S l0 o (ix3 0 s d)
      = rms width eps gain (fun d => o (ix2 d s) * Ideal.div 1 (l0 (ix2 0 s)) * S.vs (ix2 d s)) d := by
  pointwise [finish]
  rw [hg]
  rfl

/-- Row `s` of the block of queries `i`, as it is stored. -/
theorem outBlock_apply (i : Fin 10) (s : Fin 256) (d : Fin 128) :
    outBlock S i (ix3 0 s d) = N.kernel (at' i s) d := by
  rw [outBlock, finish_apply _ _ _ _ N.gain fun d => R.gain d s, Num.kernel]
  refine congrArg (fun o => rms width eps N.gain o d) (funext fun d => ?_)
  rw [Pto_apply R hf, wsum_apply R hf, R.vs, kout]
  pointwise
  rw [wsum_apply R hf, wsum_apply R hf, R.lam]

end Cert.Attn

end
-- ==== Proof.Args.lean ====
/-
  The numbers of one batch entry and one head, in terms of the program's arguments.
-/
module

public import proofs.«01_k».proof.Proof.Tile

@[expose] public section

noncomputable section

namespace Cert.Attn

open Idealize.ShloMosaic Idealize.SL.Sem Cert.KernelIdeal

/-- Lane `d` of head `h`, as a lane of all heads together. -/
def lane (h : Fin 32) (d : Fin 128) : Fin 4096 := ⟨128 * h.val + d.val, by omega⟩

/-- The numbers of batch entry `b` and head `h`. -/
def argNum
  (a0 : Vec Ideal S6x2560x32x2x64 .fp8e4m3)
  (a1 : Vec Ideal S6x2560x32x2 .f32)
  (a2 : Vec Ideal S6x2560x32x2x64 .fp8e4m3)
  (a3 : Vec Ideal S6x2560x32x2 .f32)
  (a4 : Vec Ideal S6x2560x32x128 .fp8e4m3)
  (a5 : Vec Ideal S32x128 .f32)
  (a6 : Vec Ideal S64 .f32)
  (a7 : Vec Ideal S64 .f32)
  (a8 : Vec Ideal S64 .f32)
  (a9 : Vec Ideal S64 .f32)
  (a10 : Vec Ideal S128 .f32) (b : Fin 6) (h : Fin 32) : Num where
  lam := Ideal.exp (∑ t : Fin 64, a6 (ix1 t) * a7 (ix1 t)) - Ideal.exp (∑ t : Fin 64, a8 (ix1 t) * a9 (ix1 t))
    + Ideal.ofBits .f32 0x3F2A86F7#32
  gain := fun d => a10 (ix1 d) * Ideal.ofBits .f32 0x3EAAF212#32
  vs := fun d => a5 (ix2 h d)
  qs := fun c q => a1 (ix4 b q h c)
  ks := fun c k => a3 (ix4 b k h c)
  dot := fun c k q => ∑ t : Fin 64, a2 (ix5 b k h c t) * a0 (ix5 b q h c t)
  v := fun k d => a4 (ix4 b k h d)

end Cert.Attn

end
-- ==== Proof.Join.lean ====
/-
  What the reference computes of the numbers of one batch entry and one head, and that it is what the kernel computes of
  them when every scale of the queries is a positive real.
-/
module

public import proofs.«01_k».proof.Proof.Args

@[expose] public section

noncomputable section

namespace Cert.Attn

open Idealize.ShloMosaic Idealize.SL.Sem Cert.KernelIdeal

/-- One over the square root of the 64 channels of a half. -/
def eighth : EReal := Ideal.ofBits .f32 0x3E000000#32

/-- The reference's masked score of key `k` for query `q`. -/
def Num.rscore (N : Num) (c : Fin 2) (q k : Fin 2560) : EReal :=
  if k.val ≤ q.val then N.dot c k q * (N.qs c q * eighth) * N.ks c k else ⊥

/-- The reference's result at query `q` and lane `d`. -/
def Num.reference (N : Num) (q : Fin 2560) (d : Fin 128) : EReal :=
  rms width eps N.gain (rout (rexp fun k => N.rscore 0 q k) (rexp fun k => N.rscore 1 q k) N.lam N.v N.vs) d

theorem eighth_eq : eighth = ((1 / 8 : ℝ) : EReal) := by
  unfold eighth
  simp [Ideal.ofBits, Ideal.ieee, -EReal.coe_mul]
  norm_num

theorem width_eq : width = ((128 : ℝ) : EReal) := by
  unfold width
  simp [Ideal.ofBits, Ideal.ieee, -EReal.coe_mul]
  norm_num

theorem eps_eq : ∃ e : ℝ, eps = (e : EReal) := by
  unfold eps
  simp [Ideal.ofBits, Ideal.ieee, -EReal.coe_mul]

theorem scale2_eq : scale2 = ((1 / 8 * (Real.log 2)⁻¹ : ℝ) : EReal) :=
  IdealRules.named_const.ideal_named_scalar _ _ _ _ rfl

/-- The scales of the queries are positive reals. -/
def Num.Positive (N : Num) : Prop := ∀ c q, ∃ p : ℝ, 0 < p ∧ N.qs c q = (p : EReal)

theorem Num.Positive.scaled {N : Num} (hN : N.Positive) (c : Fin 2) (q : Fin 2560) : 0 < N.qs c q * scale2 := by
  obtain ⟨p, hp, e⟩ := hN c q
  have hl : 0 < (Real.log 2)⁻¹ := inv_pos.2 (Real.log_pos (by norm_num))
  rw [e, scale2_eq, ← EReal.coe_mul]
  exact EReal.coe_pos.2 (by positivity)

/-- The reference's score is the kernel's times the query's scale. -/
theorem Num.rscore_eq (N : Num) {c : Fin 2} {q : Fin 2560} {p : ℝ} (hp : 0 < p) (e : N.qs c q = (p : EReal)) (k : Fin 2560) :
    N.rscore c q k = ((p * (1 / 8) : ℝ) : EReal) * N.score c q k := by
  unfold Num.rscore Num.score
  by_cases h : k.val ≤ q.val
  · rw [if_pos h, if_pos h, e, eighth_eq, ← EReal.coe_mul, mul_comm (N.dot c k q), mul_assoc]
  · rw [if_neg h, if_neg h, EReal.coe_mul_bot_of_pos (by positivity)]

theorem Num.kernel_eq_reference {N : Num} (hN : N.Positive) (q : Fin 2560) (d : Fin 128) : N.kernel q d = N.reference q d := by
  obtain ⟨p0, hp0, e0⟩ := hN 0 q
  obtain ⟨p1, hp1, e1⟩ := hN 1 q
  obtain ⟨e, he⟩ := eps_eq
  unfold Num.kernel Num.reference Num.weights
  simp only [N.rscore_eq hp0 e0, N.rscore_eq hp1 e1]
  rw [e0, e1, scale2_eq, ← EReal.coe_mul, ← EReal.coe_mul, ← mul_assoc, ← mul_assoc, width_eq, he]
  exact row_eq (by norm_num) N.gain (by positivity) (by positivity) (N.score 0 q) (N.score 1 q) N.lam N.v N.vs d

end Cert.Attn

end
-- ==== Proof.RefPoint.lean ====
/-
  The stages of the reference, on extended reals, at an index.
-/
module

public import proofs.«01_k».proof.Proof.RefTerm
public import proofs.«01_k».proof.Proof.Join

@[expose] public section

set_option maxRecDepth 16384

noncomputable section

namespace Cert.Attn.Ref

open Idealize.ShloMosaic Idealize.ShloMosaic.TcCoe Idealize.SL.Sem Cert.ReferenceIdeal Cert.ReferenceIdeal.Gen

theorem lamT_apply (a6 a7 a8 a9 : FVec Ideal S64 .f32) :
    lamT a6 a7 a8 a9 ix0 = Ideal.exp (∑ t : Fin 64, a6 (ix1 t) * a7 (ix1 t)) - Ideal.exp (∑ t : Fin 64, a8 (ix1 t) * a9 (ix1 t))
      + Ideal.ofBits .f32 0x3F2A86F7#32 := by
  pointwise [lamT]

theorem scoreT_apply (q k : FVec Ideal S6x2560x32x2x64 .f32) (a1 a3 : FVec Ideal S6x2560x32x2 .f32)
    (b : Fin 6) (h : Fin 32) (c : Fin 2) (i j : Fin 2560) :
    scoreT q k a1 a3 (ix5 b h c i j)
      = (∑ t : Fin 64, q (ix5 b i h c t) * k (ix5 b j h c t)) * (a1 (ix4 b i h c) * eighth) * a3 (ix4 b j h c) := by
  pointwise [scoreT]
  rfl

theorem maskT_apply (s : FVec Ideal S6x32x2x2560x2560 .f32) (b : Fin 6) (h : Fin 32) (c : Fin 2) (i j : Fin 2560) :
    maskT s (ix5 b h c i j) = if j.val ≤ i.val then s (ix5 b h c i j) else ⊥ := by
  pointwise [maskT, seenT]
  rw [ofBits_bot]
  have e : ∀ x : Fin 2560, (BitVec.ofNat 32 x.val).toInt = x.val := fun x => by
    rw [BitVec.toInt_eq_toNat_cond, BitVec.toNat_ofNat, Nat.mod_eq_of_lt (by have := x.isLt; omega), if_pos (by have := x.isLt; omega)]
  by_cases hs : j.val ≤ i.val <;> simp [hs, Scalar.select, IntOp.cmpi, BitVec.sle, e]

theorem expT_apply (s : FVec Ideal S6x32x2x2560x2560 .f32) (b : Fin 6) (h : Fin 32) (c : Fin 2) (i j : Fin 2560) :
    expT s (ix5 b h c i j) = rexp (fun j => s (ix5 b h c i j)) j := by
  pointwise [expT]
  rw [ofBits_bot]
  rfl

theorem sumT_apply (e : FVec Ideal S6x32x2x2560x2560 .f32) (b : Fin 6) (h : Fin 32) (c : Fin 2) (i : Fin 2560) :
    sumT e (ix5 b h c i 0) = ∑ j : Fin 2560, e (ix5 b h c i j) := by
  pointwise [sumT]

theorem diffT_apply (e : FVec Ideal S6x32x2x2560x2560 .f32) (l : FVec Ideal S6x32x2x2560x1 .f32) (lam : FVec Ideal S_ .f32)
    (b : Fin 6) (h : Fin 32) (i j : Fin 2560) :
    diffT e l lam (ix4 b h i j)
      = Ideal.div (e (ix5 b h 0 i j)) (l (ix5 b h 0 i 0)) - e (ix5 b h 1 i j) * Ideal.div (lam ix0) (l (ix5 b h 1 i 0)) := by
  pointwise [diffT]

theorem attnT_apply (w : FVec Ideal S6x32x2560x2560 .f32) (v : FVec Ideal S6x2560x32x128 .f32) (a5 : FVec Ideal S32x128 .f32)
    (b : Fin 6) (h : Fin 32) (i : Fin 2560) (d : Fin 128) :
    attnT w v a5 (ix4 b h i d) = (∑ j : Fin 2560, w (ix4 b h i j) * v (ix4 b j h d)) * a5 (ix2 h d) := by
  pointwise [attnT]

theorem outT_apply (o : FVec Ideal S6x32x2560x128 .f32) (a10 : FVec Ideal S128 .f32)
    (b : Fin 6) (h : Fin 32) (i : Fin 2560) (d : Fin 128) :
    outT o a10 (ix3 b i (lane h d))
      = rms width eps (fun d => a10 (ix1 d) * Ideal.ofBits .f32 0x3EAAF212#32) (fun d => o (ix4 b h i d)) d := by
  pointwise [outT, lane]
  rfl

/-- The reference's whole term, at batch entry `b`, query `i` and lane `d` of head `h`. -/
theorem term_apply (a0 : FVec Ideal S6x2560x32x2x64 .f32) (a1 : FVec Ideal S6x2560x32x2 .f32) (a2 : FVec Ideal S6x2560x32x2x64 .f32)
    (a3 : FVec Ideal S6x2560x32x2 .f32) (a4 : FVec Ideal S6x2560x32x128 .f32) (a5 : FVec Ideal S32x128 .f32)
    (a6 a7 a8 a9 : FVec Ideal S64 .f32) (a10 : FVec Ideal S128 .f32) (b : Fin 6) (i : Fin 2560) (h : Fin 32) (d : Fin 128) :
    outT (attnT (diffT (expT (maskT (scoreT a0 a2 a1 a3))) (sumT (expT (maskT (scoreT a0 a2 a1 a3)))) (lamT a6 a7 a8 a9)) a4 a5) a10
      (ix3 b i (lane h d)) = (argNum a0 a1 a2 a3 a4 a5 a6 a7 a8 a9 a10 b h).reference i d := by
  rw [outT_apply]
  simp only [attnT_apply, diffT_apply, sumT_apply, expT_apply, maskT_apply, scoreT_apply, lamT_apply]
  have comm : ∀ (j : Fin 2) (k : Fin 2560), ∑ t : Fin 64, a0 (ix5 b i h j t) * a2 (ix5 b k h j t)
      = (argNum a0 a1 a2 a3 a4 a5 a6 a7 a8 a9 a10 b h).dot j k i := fun j k => Finset.sum_congr rfl fun t _ => mul_comm _ _
  simp only [comm]
  rfl

end Cert.Attn.Ref

end
-- ==== Proof.RefValue.lean ====
/-
  The reference's result array, on extended reals.
-/
module

public import proofs.«01_k».proof.Proof.RefPoint
public import Idealize.ShloMosaic.Lib.Pipeline.ValueKit
public import Idealize.ShloMosaic.Lib.Claim

@[expose] public section

set_option maxRecDepth 16384

noncomputable section

namespace Cert.Attn.Ref

open Idealize.ShloMosaic Idealize.ShloMosaic.TcCoe Idealize.SL.Sem Cert.ReferenceIdeal Cert.ReferenceIdeal.Gen
open Idealize.ShloMosaic.Pipeline (Dat)

variable (m : (ℓ : Loc nD τ sig) → Buf (Elt Ideal) ℓ)

theorem idx : ∀ t : Fin cfg0.N, win0_0.index t = ![0, 0, 0, 0, 0] ∧ win0_1.index t = ![0, 0, 0, 0, 0] ∧ win0_2.index t = ![0, 0, 0, 0]
    ∧ win0_3.index t = ![0, 0, 0, 0, 0] ∧ win0_4.index t = ![0, 0, 0, 0, 0] ∧ win0_5.index t = ![0, 0, 0, 0] :=
  (by decide +kernel : ∀ t : Fin grid0.N, _)

/-- The decoded query codes are the query codes, -/
theorem decoded0 (c : Dev nD) :
    (dats m 0 c).arrAt 3 cfg0.N = (fun y => m ((c : Thread nD τ).loc main_arg0) y : FVec Ideal S6x2560x32x2x64 .f32) := by
  refine (dats m 0 c).arrAt_eq_of_covers 3 _ (by decide +kernel) fun t _ y => ?_
  blk_simp
  rw [after0_3]
  frame_out
  unfold k0_pay1
  blk_ext! [iblk, V, idx t]

/-- the decoded key codes the key codes, -/
theorem decoded2 (c : Dev nD) :
    (dats m 0 c).arrAt 4 cfg0.N = (fun y => m ((c : Thread nD τ).loc main_arg2) y : FVec Ideal S6x2560x32x2x64 .f32) := by
  refine (dats m 0 c).arrAt_eq_of_covers 4 _ (by decide +kernel) fun t _ y => ?_
  blk_simp
  rw [after0_4]
  frame_out
  unfold k0_pay2
  blk_ext! [iblk, V, idx t]

/-- and the decoded value codes the value codes. -/
theorem decoded4 (c : Dev nD) :
    (dats m 0 c).arrAt 5 cfg0.N = (fun y => m ((c : Thread nD τ).loc main_arg4) y : FVec Ideal S6x2560x32x128 .f32) := by
  refine (dats m 0 c).arrAt_eq_of_covers 5 _ (by decide +kernel) fun t _ y => ?_
  blk_simp
  rw [after0_5]
  frame_out
  unfold k0_pay3
  blk_ext! [iblk, V, idx t]

/-- What the buffers hold when the host operations start. -/
def entry (c : Dev nD) : Valuation τ sig (Elt Ideal) :=
  Pipeline.withArrays (cfgs 0).spec c (V0 m c) fun w => (dats m 0 c).arrAt w (cfgs 0).N

theorem arr_inj : Function.Injective (Pipeline.arrRef (cfgs 0).spec) := by decide

theorem entry_q (c : Dev nD) :
    entry m c (Proc.devRef .tc main_v0_0) = (fun y => m ((c : Thread nD τ).loc main_arg0) y : FVec Ideal S6x2560x32x2x64 .f32) :=
  (Pipeline.withArrays_arr (cfgs 0).spec arr_inj c (V0 m c) _ 3).trans (decoded0 m c)

theorem entry_k (c : Dev nD) :
    entry m c (Proc.devRef .tc main_v0_1) = (fun y => m ((c : Thread nD τ).loc main_arg2) y : FVec Ideal S6x2560x32x2x64 .f32) :=
  (Pipeline.withArrays_arr (cfgs 0).spec arr_inj c (V0 m c) _ 4).trans (decoded2 m c)

theorem entry_v (c : Dev nD) :
    entry m c (Proc.devRef .tc main_v0_2) = (fun y => m ((c : Thread nD τ).loc main_arg4) y : FVec Ideal S6x2560x32x128 .f32) :=
  (Pipeline.withArrays_arr (cfgs 0).spec arr_inj c (V0 m c) _ 5).trans (decoded4 m c)

theorem entry_arg1 (c : Dev nD) : entry m c (Proc.devRef .tc main_arg1) = m ((c : Thread nD τ).loc main_arg1) :=
  Pipeline.withArrays_of_ne _ c (V0 m c) _ main_arg1 (by exact (by decide : ∀ w, Pipeline.arrRef spec0 w ≠ main_arg1))

theorem entry_arg3 (c : Dev nD) : entry m c (Proc.devRef .tc main_arg3) = m ((c : Thread nD τ).loc main_arg3) :=
  Pipeline.withArrays_of_ne _ c (V0 m c) _ main_arg3 (by exact (by decide : ∀ w, Pipeline.arrRef spec0 w ≠ main_arg3))

theorem entry_arg5 (c : Dev nD) : entry m c (Proc.devRef .tc main_arg5) = m ((c : Thread nD τ).loc main_arg5) :=
  Pipeline.withArrays_of_ne _ c (V0 m c) _ main_arg5 (by exact (by decide : ∀ w, Pipeline.arrRef spec0 w ≠ main_arg5))

theorem entry_arg6 (c : Dev nD) : entry m c (Proc.devRef .tc main_arg6) = m ((c : Thread nD τ).loc main_arg6) :=
  Pipeline.withArrays_of_ne _ c (V0 m c) _ main_arg6 (by exact (by decide : ∀ w, Pipeline.arrRef spec0 w ≠ main_arg6))

theorem entry_arg7 (c : Dev nD) : entry m c (Proc.devRef .tc main_arg7) = m ((c : Thread nD τ).loc main_arg7) :=
  Pipeline.withArrays_of_ne _ c (V0 m c) _ main_arg7 (by exact (by decide : ∀ w, Pipeline.arrRef spec0 w ≠ main_arg7))

theorem entry_arg8 (c : Dev nD) : entry m c (Proc.devRef .tc main_arg8) = m ((c : Thread nD τ).loc main_arg8) :=
  Pipeline.withArrays_of_ne _ c (V0 m c) _ main_arg8 (by exact (by decide : ∀ w, Pipeline.arrRef spec0 w ≠ main_arg8))

theorem entry_arg9 (c : Dev nD) : entry m c (Proc.devRef .tc main_arg9) = m ((c : Thread nD τ).loc main_arg9) :=
  Pipeline.withArrays_of_ne _ c (V0 m c) _ main_arg9 (by exact (by decide : ∀ w, Pipeline.arrRef spec0 w ≠ main_arg9))

theorem entry_arg10 (c : Dev nD) : entry m c (Proc.devRef .tc main_arg10) = m ((c : Thread nD τ).loc main_arg10) :=
  Pipeline.withArrays_of_ne _ c (V0 m c) _ main_arg10 (by exact (by decide : ∀ w, Pipeline.arrRef spec0 w ≠ main_arg10))

/-- The result, as the stages' term over what the buffers hold when the host operations start. -/
theorem tail_read (c : Dev nD) : Pipeline.afterTail₀ cfgs (dats m) 0 (V0 m) [hostOps1, hostOps1_1, hostOps1_2] c main_v74
    = (let V := entry m c
       let e := expT (maskT (scoreT (V (Proc.devRef .tc main_v0_0)) (V (Proc.devRef .tc main_v0_1)) (V (Proc.devRef .tc main_arg1)) (V (Proc.devRef .tc main_arg3))))
       outT (attnT (diffT e (sumT e)
          (lamT (V (Proc.devRef .tc main_arg6)) (V (Proc.devRef .tc main_arg7)) (V (Proc.devRef .tc main_arg8)) (V (Proc.devRef .tc main_arg9))))
        (V (Proc.devRef .tc main_v0_2)) (V (Proc.devRef .tc main_arg5))) (V (Proc.devRef .tc main_arg10))) := by
  show StableHlo.after (hostOps1 ++ (hostOps1_1 ++ (hostOps1_2 ++ []))) (entry m c) (Proc.devRef .tc main_v74) = _
  rw [StableHlo.after_append, StableHlo.after_append, List.append_nil, out_read, mask_read]
  have e8 : StableHlo.after hostOps1_1 (StableHlo.after hostOps1 (entry m c)) (Proc.devRef .tc main_v8) = StableHlo.after hostOps1 (entry m c) (Proc.devRef .tc main_v8) := by
    after_reads_simp
  have ev : StableHlo.after hostOps1_1 (StableHlo.after hostOps1 (entry m c)) (Proc.devRef .tc main_v0_2) = entry m c (Proc.devRef .tc main_v0_2) := by
    after_reads_simp
  have e5 : StableHlo.after hostOps1_1 (StableHlo.after hostOps1 (entry m c)) (Proc.devRef .tc main_arg5) = entry m c (Proc.devRef .tc main_arg5) := by
    after_reads_simp
  have e10 : StableHlo.after hostOps1_1 (StableHlo.after hostOps1 (entry m c)) (Proc.devRef .tc main_arg10) = entry m c (Proc.devRef .tc main_arg10) := by
    after_reads_simp
  rw [e8, ev, e5, e10, lam_read]

/-- The numbers of batch entry `b` and head `h` in a memory. -/
def memNum (c : Dev nD) (b : Fin 6) (h : Fin 32) : Num :=
  argNum (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) b h

/-- The reference's result, at batch entry `b`, query `i` and lane `d` of head `h`. -/
theorem reference_array (c : Dev nD) (b : Fin 6) (i : Fin 2560) (h : Fin 32) (d : Fin 128) :
    (Pipeline.afterTail₀ cfgs (dats m) 0 (V0 m) [hostOps1, hostOps1_1, hostOps1_2] c main_v74 : FVec Ideal S6x2560x4096 .bf16)
      (ix3 b i (lane h d)) = (memNum m c b h).reference i d := by
  refine (congrFun (tail_read m c) _).trans ((term_apply _ _ _ _ _ _ _ _ _ _ _ b i h d).trans ?_)
  rw [entry_q, entry_k, entry_v, entry_arg1, entry_arg3, entry_arg5, entry_arg6, entry_arg7, entry_arg8, entry_arg9, entry_arg10]
  rfl

/-- The reference's run, with its result named and its arguments unchanged. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v74)
        = Pipeline.afterTail₀ cfgs (dats m) 0 (V0 m) [hostOps1, hostOps1_1, hostOps1_2] c main_v74
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono
    (fun r h c => ⟨(h.1 c).2 main_v74 (Pipeline.mem_restRefs_of main_v74 (by decide) (by decide)), h.2 c⟩)
    (θ_run_and (run_main m ρ) (unchanged m ρ))

end Cert.Attn.Ref

end
-- ==== Proof.Body.lean ====
/-
  What the run of the body stores into its output, as the loops of `Loop.lean`: the list the run found is that list, by
  computation.
-/
module

public import proofs.«01_k».proof.Proof.Loop
public import proofs.«01_k».proof.Proof.Gen.KernelIdeal.Frame

@[expose] public section

set_option maxRecDepth 16384

noncomputable section

namespace Cert.Attn

open Idealize.ShloMosaic Idealize.SL.Sem Cert.KernelIdeal Cert.KernelIdeal.Gen

variable {F : FTy → Type} [FloatOps F] [Named F]

/-- Where 256 scales of half `c` lie. -/
def srect (c : Fin 2) (i : Fin 10) : Rect S1x1x2x2560 :=
  Rect.unit ![0, 0, c.val, 256 * i.val] S1x1x1x256.size (by
    intro a; have := c.isLt; have := i.isLt
    match a with
    | ⟨0, _⟩ => show 0 + 1 ≤ 1; omega
    | ⟨1, _⟩ => show 0 + 1 ≤ 1; omega
    | ⟨2, _⟩ => show c.val + 1 ≤ 2; omega
    | ⟨3, _⟩ => show 256 * i.val + 256 ≤ 2560; omega)

/-- Where 128 scales of half `c` lie. -/
def srect' (c : Fin 2) (t : Fin 20) : Rect S1x1x2x2560 :=
  Rect.unit ![0, 0, c.val, 128 * t.val] S1x1x1x128.size (by
    intro a; have := c.isLt; have := t.isLt
    match a with
    | ⟨0, _⟩ => show 0 + 1 ≤ 1; omega
    | ⟨1, _⟩ => show 0 + 1 ≤ 1; omega
    | ⟨2, _⟩ => show c.val + 1 ≤ 2; omega
    | ⟨3, _⟩ => show 128 * t.val + 128 ≤ 2560; omega)

/-- Where 128 rows of the scratch of the key scales lie. -/
def krect' (c : Fin 2) (t : Fin 20) : Rect S2x2560x128 :=
  Rect.unit ![c.val, 128 * t.val, 0] S1x128x128.size (by
    intro a; have := c.isLt; have := t.isLt
    match a with
    | ⟨0, _⟩ => show c.val + 1 ≤ 2; omega
    | ⟨1, _⟩ => show 128 * t.val + 128 ≤ 2560; omega
    | ⟨2, _⟩ => show 0 + 128 ≤ 128; omega)

/-- Where block `j` of half `c` lies in the scratches of the key scales and of the queries. -/
def krect (c : Fin 2) (j : Fin 10) : Rect S2x2560x128 :=
  Rect.unit ![c.val, 256 * j.val, 0] S1x256x128.size (by
    intro a; have := c.isLt; have := j.isLt
    match a with
    | ⟨0, _⟩ => show c.val + 1 ≤ 2; omega
    | ⟨1, _⟩ => show 256 * j.val + 256 ≤ 2560; omega
    | ⟨2, _⟩ => show 0 + 128 ≤ 128; omega)

/-- Where block `j` of the second half's keys lies in its scratch. -/
def rrect (j : Fin 10) : Rect S2560x128 :=
  Rect.unit ![256 * j.val, 0] S256x128.size (by
    intro a; have := j.isLt
    match a with
    | ⟨0, _⟩ => show 256 * j.val + 256 ≤ 2560; omega
    | ⟨1, _⟩ => show 0 + 128 ≤ 128; omega)

/-- Where block `j` of the transposed values lies in its scratch. -/
def vrect (j : Fin 10) : Rect S128x2560 :=
  Rect.unit ![0, 256 * j.val] S128x256.size (by
    intro a; have := j.isLt
    match a with
    | ⟨0, _⟩ => show 0 + 128 ≤ 128; omega
    | ⟨1, _⟩ => show 256 * j.val + 256 ≤ 2560; omega)

/-- 128 key scales, spread along the lanes. -/
def spread (v : Vec F S1x1x1x128 .f32) : FVec F S1x128x128 .f32 :=
  shapeCast S1x128x128 (transpose S128x128 [1, 0] (broadcastTo S128x128 (shapeCast S1x128
    (shapeCast S1x128 v shapeCasts_S1x1x1x128_S1x128) shapeCasts_S1x128_S1x128) broadcasts_S1x128_S128x128)
    transposes_S128x128_p1_0_S128x128) shapeCasts_S128x128_S1x128x128

/-- The stores of the key scales: half `c`, chunks below `n`, over `L`. -/
def spreads (x : Fin 2 → Fin 20 → Vec F S1x1x1x128 .f32) (c : Fin 2) (L : List (View.Piece (Elt F) S2x2560x128 .f32)) :
    (n : ℕ) → n ≤ 20 → List (View.Piece (Elt F) S2x2560x128 .f32)
  | 0, _ => L
  | n + 1, h => ⟨krect' c ⟨n, h⟩, spread (x c ⟨n, h⟩)⟩ :: spreads x c L n (Nat.le_of_succ_le h)

variable
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x1x2x2560 .f32) (harg7 : arg7.IsWhole)
  (arg8 : Memref sig .tc .vmem S1x1x2x2560 .f32) (harg8 : arg8.IsWhole)
  (arg9 : Memref sig .tc .vmem S1x1x128 .f32) (harg9 : arg9.IsWhole)
  (arg10 : Memref sig .tc .vmem S1x2560x128 .fp8e4m3) (harg10 : arg10.IsWhole)
  (arg11 : Memref sig .tc .vmem S1x2560x128 .fp8e4m3) (harg11 : arg11.IsWhole)
  (arg12 : Memref sig .tc .vmem S1x2560x128 .fp8e4m3) (harg12 : arg12.IsWhole)
  (arg13 : Memref sig .tc .vmem S1x2560x128 .bf16) (harg13 : arg13.IsWhole)
  (arg14 : Memref sig .tc .vmem S2560x128 .fp8e4m3) (harg14 : arg14.IsWhole)
  (arg15 : Memref sig .tc .vmem S2x2560x128 .fp8e4m3) (harg15 : arg15.IsWhole)
  (arg16 : Memref sig .tc .vmem S128x2560 .bf16) (harg16 : arg16.IsWhole)
  (arg17 : Memref sig .tc .vmem S2x2560x128 .f32) (harg17 : arg17.IsWhole)
  (arg18 : Memref sig .tc .vmem S2x2560x256 .f32) (harg18 : arg18.IsWhole)
  (x0 : Vec F S1x64 .f32)
  (x1 : Vec F S1x64 .f32)
  (x2 : Vec F S1x64 .f32)
  (x3 : Vec F S1x64 .f32)
  (x4 : Vec F S1x128 .f32)
  (x5 : Vec F S1x1x2x2560 .f32)
  (x6 : Vec F S1x1x2x2560 .f32)
  (x7 : Vec F S1x1x128 .f32)
  (x8 : Vec F S1x2560x128 .fp8e4m3)
  (x9 : Vec F S1x2560x128 .fp8e4m3)
  (x10 : Vec F S1x2560x128 .fp8e4m3)

/-- The second half's keys moved to the low lanes, as stored. -/
def keyStores : List (View.Piece (Elt F) S2560x128 .fp8e4m3) :=
  [⟨Rect.unit ![0, 0] S2560x128.size inb_S2560x128_S2560x128_0_0, k0_pay6 (k0_pay5 (View.readAt (Elt F) arg11.view
    (Rect.unit ![0, 0, 0] S1x2560x128.size inb_S1x2560x128_S1x2560x128_0_0_0).toLoadRect (harg11.unread x9)))⟩]

/-- The two halves of the queries, each in the low lanes over zeros, as stored. -/
def qryStores : List (View.Piece (Elt F) S2x2560x128 .fp8e4m3) :=
  [⟨Rect.unit ![1, 0, 0] S1x2560x128.size inb_S2x2560x128_S1x2560x128_1_0_0, k0_pay9 (View.readAt (Elt F) arg10.view
      (Rect.unit ![0, 0, 0] S1x2560x128.size inb_S1x2560x128_S1x2560x128_0_0_0).toLoadRect (harg10.unread x8))⟩,
   ⟨Rect.unit ![0, 0, 0] S1x2560x128.size inb_S2x2560x128_S1x2560x128_0_0_0, k0_pay8 (View.readAt (Elt F) arg10.view
      (Rect.unit ![0, 0, 0] S1x2560x128.size inb_S1x2560x128_S1x2560x128_0_0_0).toLoadRect (harg10.unread x8))⟩]

/-- The values transposed, as stored. -/
def valStores : List (View.Piece (Elt F) S128x2560 .bf16) :=
  [⟨Rect.unit ![0, 0] S128x2560.size inb_S128x2560_S128x2560_0_0, k0_pay10 (View.readAt (Elt F) arg12.view
    (Rect.unit ![0, 0, 0] S1x2560x128.size inb_S1x2560x128_S1x2560x128_0_0_0).toLoadRect (harg12.unread x10))⟩]

/-- The key scales, as stored. -/
def scaleStores : List (View.Piece (Elt F) S2x2560x128 .f32) :=
  let x := fun c t => View.readAt (Elt F) arg8.view (srect' c t).toLoadRect (harg8.unread x6)
  spreads x 1 (spreads x 0 [] 20 (Nat.le_refl 20)) 20 (Nat.le_refl 20)

/-- What the loops read, of the body's arguments. -/
def srcOf : Src F where
  lam := k0_pay2
    (View.readAt (Elt F) arg2.view (Rect.unit ![0, 0] S1x64.size inb_S1x64_S1x64_0_0).toLoadRect (harg2.unread x0))
    (View.readAt (Elt F) arg3.view (Rect.unit ![0, 0] S1x64.size inb_S1x64_S1x64_0_0).toLoadRect (harg3.unread x1))
    (View.readAt (Elt F) arg4.view (Rect.unit ![0, 0] S1x64.size inb_S1x64_S1x64_0_0).toLoadRect (harg4.unread x2))
    (View.readAt (Elt F) arg5.view (Rect.unit ![0, 0] S1x64.size inb_S1x64_S1x64_0_0).toLoadRect (harg5.unread x3))
  gain := k0_pay3 (View.readAt (Elt F) arg6.view (Rect.unit ![0, 0] S1x128.size inb_S1x128_S1x128_0_0).toLoadRect (harg6.unread x4))
  vs := k0_pay4 (View.readAt (Elt F) arg9.view (Rect.unit ![0, 0, 0] S1x1x128.size inb_S1x1x128_S1x1x128_0_0_0).toLoadRect (harg9.unread x7))
  qs := fun c i => View.readAt (Elt F) arg7.view (srect c i).toLoadRect (harg7.unread x5)
  key := fun c j => match c with
    | 0 => shapeCast S256x128 (View.readAt (Elt F) arg11.view (orect j).toLoadRect (harg11.unread x9)) shapeCasts_S1x256x128_S256x128
    | 1 => arg14.view.readCov (keyStores arg11 harg11 x9) (rrect j).toLoadRect
  kcol := fun c j => arg17.view.readCov (scaleStores arg8 harg8 x6) (krect c j).toLoadRect
  qry := fun c i => arg15.view.readCov (qryStores arg10 harg10 x8) (krect c i).toLoadRect
  vt := fun j => arg16.view.readCov (valStores arg12 harg12 x10) (vrect j).toLoadRect
  xs := arg18.view

set_option maxHeartbeats 4000000 in
/-- The body's run stores what the loops store. -/
theorem run_eq (c : Dev nD) (i : grid0.Coords) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      x0 x1 x2 x3 x4 x5 x6 x7 x8 x9 x10).1 =
    stores (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10) 10 (Nat.le_refl 10) := by
  sl_kernel_rfl

end Cert.Attn

end
-- ==== Proof.Inputs.lean ====
/-
  What the loops read, on extended reals, in terms of the blocks the body was given: the scratch buffers filled at the
  start, and the halves of the heads moved to the low lanes.
-/
module

public import proofs.«01_k».proof.Proof.Tile
public import proofs.«01_k».proof.Proof.Body
public import Idealize.ShloMosaic.Lib.WholeRead

@[expose] public section

set_option maxRecDepth 16384

noncomputable section

namespace Cert.Attn

open Idealize.ShloMosaic Idealize.SL.Sem Cert.KernelIdeal Cert.KernelIdeal.Gen

/-- Channel `t` of half `c`. -/
def half (c : Fin 2) (t : Fin 64) : Fin 128 := ⟨64 * c.val + t.val, by omega⟩

/-- The numbers in the blocks the body was given. -/
def numOf (x0 : Vec Ideal S1x64 .f32)
  (x1 : Vec Ideal S1x64 .f32)
  (x2 : Vec Ideal S1x64 .f32)
  (x3 : Vec Ideal S1x64 .f32)
  (x4 : Vec Ideal S1x128 .f32)
  (x5 : Vec Ideal S1x1x2x2560 .f32)
  (x6 : Vec Ideal S1x1x2x2560 .f32)
  (x7 : Vec Ideal S1x1x128 .f32)
  (x8 : Vec Ideal S1x2560x128 .fp8e4m3)
  (x9 : Vec Ideal S1x2560x128 .fp8e4m3)
  (x10 : Vec Ideal S1x2560x128 .fp8e4m3) : Num where
  lam := Ideal.exp (∑ t : Fin 64, x0 (ix2 0 t) * x1 (ix2 0 t)) - Ideal.exp (∑ t : Fin 64, x2 (ix2 0 t) * x3 (ix2 0 t))
    + Ideal.ofBits .f32 0x3F2A86F7#32
  gain := fun d => x4 (ix2 0 d) * Ideal.ofBits .f32 0x3EAAF212#32
  vs := fun d => x7 (ix3 0 0 d)
  qs := fun c q => x5 (ix4 0 0 c q)
  ks := fun c k => x6 (ix4 0 0 c k)
  dot := fun c k q => ∑ t : Fin 64, x9 (ix3 0 k (half c t)) * x8 (ix3 0 q (half c t))
  v := fun k d => x10 (ix3 0 k d)

/-- Row `s` of block `i` of half `c`, as a place of the two halves together. -/
theorem krect_idx (c : Fin 2) (i : Fin 10) (s : Fin 256) (l : Fin 128) : (krect c i).emb (ix3 0 s l) = ix3 c (at' i s) l := by
  funext a
  match a with
  | ⟨0, _⟩ => exact Fin.ext (by show c.val + 1 * 0 = c.val; omega)
  | ⟨1, _⟩ => exact Fin.ext (by show 256 * i.val + 1 * s.val = 256 * i.val + s.val; omega)
  | ⟨2, _⟩ => exact Fin.ext (by show 0 + 1 * l.val = l.val; omega)

/-- A row of a chunk of 128, likewise. -/
theorem krect'_idx (c : Fin 2) (k : Fin 2560) (l : Fin 128) :
    (krect' c ⟨k.val / 128, by omega⟩).emb (ix3 0 ⟨k.val % 128, by omega⟩ l) = ix3 c k l := by
  funext a
  match a with
  | ⟨0, _⟩ => exact Fin.ext (by show c.val + 1 * 0 = c.val; omega)
  | ⟨1, _⟩ => exact Fin.ext (by show 128 * (k.val / 128) + 1 * (k.val % 128) = k.val; omega)
  | ⟨2, _⟩ => exact Fin.ext (by show 0 + 1 * l.val = l.val; omega)

/-- A row of a whole half, likewise. -/
theorem hrect_idx (n : ℕ) (hn : n < 2) (inb) (q : Fin 2560) (l : Fin 128) :
    (Rect.unit (s := S2x2560x128) ![n, 0, 0] S1x2560x128.size inb).emb (ix3 0 q l) = ix3 ⟨n, hn⟩ q l := by
  funext a
  match a with
  | ⟨0, _⟩ => exact Fin.ext (by show n + 1 * 0 = n; omega)
  | ⟨1, _⟩ => exact Fin.ext (by show 0 + 1 * q.val = q.val; omega)
  | ⟨2, _⟩ => exact Fin.ext (by show 0 + 1 * l.val = l.val; omega)

/-- The two halves do not meet. -/
theorem hrect_disjoint :
    Disjoint (Rect.unit (s := S2x2560x128) ![1, 0, 0] S1x2560x128.size inb_S2x2560x128_S1x2560x128_1_0_0).set
      (Rect.unit (s := S2x2560x128) ![0, 0, 0] S1x2560x128.size inb_S2x2560x128_S1x2560x128_0_0_0).set :=
  Rect.unit_disjoint (s := S2x2560x128) (0 : Fin 3) (.inr (by decide))

/-- Row `s` of block `i` of an input. -/
theorem orect_idx (i : Fin 10) (s : Fin 256) (l : Fin 128) : (orect i).emb (ix3 0 s l) = ix3 0 (at' i s) l := by
  funext a
  match a with
  | ⟨0, _⟩ => rfl
  | ⟨1, _⟩ => exact Fin.ext (by show 256 * i.val + 1 * s.val = 256 * i.val + s.val; omega)
  | ⟨2, _⟩ => exact Fin.ext (by show 0 + 1 * l.val = l.val; omega)

theorem drop_apply (w : Vec Ideal S1x256x128 .fp8e4m3) (r : Fin 256) (l : Fin 128) :
    shapeCast S256x128 w shapeCasts_S1x256x128_S256x128 (ix2 r l) = w (ix3 0 r l) := by
  pointwise

/-- A whole load of an input of three axes reads it. -/
theorem ld_whole (x : Vec Ideal S1x2560x128 .fp8e4m3) :
    View.ld x (Rect.unit ![0, 0, 0] S1x2560x128.size inb_S1x2560x128_S1x2560x128_0_0_0) = x := by
  funext y
  show x _ = x y
  refine congrArg x ?_
  funext a
  match a with
  | ⟨0, _⟩ => exact Fin.ext (by show 0 + 1 * (y 0).val = (y 0).val; omega)
  | ⟨1, _⟩ => exact Fin.ext (by show 0 + 1 * (y 1).val = (y 1).val; omega)
  | ⟨2, _⟩ => exact Fin.ext (by show 0 + 1 * (y 2).val = (y 2).val; omega)

theorem slt_words (l : Fin 128) : IntOp.cmpi .slt (BitVec.ofNat 32 l.val) 64#32 = if l.val < 64 then 1#1 else 0#1 := by
  have e : (BitVec.ofNat 32 l.val).toInt = l.val := by
    rw [BitVec.toInt_eq_toNat_cond, BitVec.toNat_ofNat, Nat.mod_eq_of_lt (by have := l.isLt; omega), if_pos (by have := l.isLt; omega)]
  by_cases h : l.val < 64
  · rw [if_pos h, IntOp.cmpi]
    simp [BitVec.slt, e, h]
  · rw [if_neg h, IntOp.cmpi]
    simp [BitVec.slt, e, h]

/-- The lane that a rotation by half the lanes reads. -/
def turn (l : Fin 128) : Fin 128 := ⟨(l.val + 128 - 64) % 128, Nat.mod_lt _ (by decide)⟩

theorem pay8_apply (x : Vec Ideal S1x2560x128 .fp8e4m3) (q : Fin 2560) (l : Fin 128) :
    k0_pay8 x (ix3 0 q l) = if l.val < 64 then x (ix3 0 q l) else 0 := by
  pointwise [k0_pay8, k0_pay7]
  rw [slt_words]
  by_cases h : l.val < 64 <;> simp [h, Scalar.select]

theorem pay9_apply (x : Vec Ideal S1x2560x128 .fp8e4m3) (q : Fin 2560) (l : Fin 128) :
    k0_pay9 x (ix3 0 q l) = if l.val < 64 then x (ix3 0 q (turn l)) else 0 := by
  pointwise [k0_pay9, k0_pay7]
  rw [slt_words]
  by_cases h : l.val < 64 <;> simp [h, Scalar.select, turn]

/-- A product summed over the lanes, one factor zero in the high lanes, is the product summed over the low half. -/
theorem sum_low (a b : Fin 128 → EReal) :
    ∑ l : Fin 128, a l * (if l.val < 64 then b l else 0) = ∑ t : Fin 64, a ⟨t.val, by omega⟩ * b ⟨t.val, by omega⟩ := by
  refine (Fin.sum_univ_add (a := 64) (b := 64) fun l : Fin 128 => a l * (if l.val < 64 then b l else 0)).trans ?_
  have low : ∀ t : Fin 64, a (Fin.castAdd 64 t) * (if (Fin.castAdd 64 t).val < 64 then b (Fin.castAdd 64 t) else 0)
      = a ⟨t.val, by omega⟩ * b ⟨t.val, by omega⟩ := fun t => by
    rw [if_pos (show (Fin.castAdd 64 t).val < 64 from t.isLt)]; rfl
  have high : ∀ t : Fin 64, a (Fin.natAdd 64 t) * (if (Fin.natAdd 64 t).val < 64 then b (Fin.natAdd 64 t) else 0) = 0 :=
    fun t => by rw [if_neg (by show ¬ 64 + t.val < 64; omega), mul_zero]
  rw [Finset.sum_congr rfl fun t _ => low t, Finset.sum_eq_zero fun t _ => high t, add_zero]

/-! ## The scratch of the key scales -/

theorem krect'_disjoint {c c' : Fin 2} {j j' : Fin 20} (h : c ≠ c' ∨ j ≠ j') :
    Disjoint (krect' c j).set (krect' c' j').set := by
  rcases h with h | h
  · refine Rect.unit_disjoint (s := S2x2560x128) (0 : Fin 3) ?_
    have : c.val ≠ c'.val := fun e => h (Fin.ext e)
    show c.val + 1 ≤ c'.val ∨ c'.val + 1 ≤ c.val
    omega
  · refine Rect.unit_disjoint (s := S2x2560x128) (1 : Fin 3) ?_
    have : j.val ≠ j'.val := fun e => h (Fin.ext e)
    show 128 * j.val + 128 ≤ 128 * j'.val ∨ 128 * j'.val + 128 ≤ 128 * j.val
    omega

theorem canon_spreads_other (x : Fin 2 → Fin 20 → Vec Ideal S1x1x1x128 .f32) {c c' : Fin 2} (h : c ≠ c')
    (L : List (View.Piece (Elt Ideal) S2x2560x128 .f32)) (t : Fin 20) (z : (krect' c' t).shape.Idx) :
    ∀ (n : ℕ) (hn : n ≤ 20), View.canon (spreads x c L n hn) ((krect' c' t).emb z) = View.canon L ((krect' c' t).emb z)
  | 0, _ => rfl
  | n + 1, hn => by
    rw [spreads, View.canon_cons_of_not_mem]
    · exact canon_spreads_other x h L t z n _
    · exact Finset.disjoint_right.mp (krect'_disjoint (.inl h)) ((krect' c' t).toLoadRect.idx_mem z)

theorem canon_spreads (x : Fin 2 → Fin 20 → Vec Ideal S1x1x1x128 .f32) (c : Fin 2)
    (L : List (View.Piece (Elt Ideal) S2x2560x128 .f32)) (t : Fin 20) (z : (krect' c t).shape.Idx) :
    ∀ (n : ℕ) (hn : n ≤ 20), t.val < n → View.canon (spreads x c L n hn) ((krect' c t).emb z) = spread (x c t) z
  | 0, _, h => absurd h (Nat.not_lt_zero _)
  | n + 1, hn, h => by
    by_cases e : t.val = n
    · obtain rfl : t = ⟨n, hn⟩ := Fin.ext e
      exact View.canon_cons_emb (krect' c ⟨n, hn⟩) _ _ z
    · rw [spreads, View.canon_cons_of_not_mem]
      · exact canon_spreads x c L t z n _ (by omega)
      · exact Finset.disjoint_right.mp (krect'_disjoint (.inr fun e' => e (congrArg Fin.val e').symm)) ((krect' c t).toLoadRect.idx_mem z)

theorem spread_apply (v : Vec Ideal S1x1x1x128 .f32) (r l : Fin 128) : spread v (ix3 0 r l) = v (ix4 0 0 0 r) := by
  pointwise [spread]

variable
  (arg2 : Memref sig .tc .vmem S1x64 .f32) (harg2 : arg2.IsWhole)
  (arg3 : Memref sig .tc .vmem S1x64 .f32) (harg3 : arg3.IsWhole)
  (arg4 : Memref sig .tc .vmem S1x64 .f32) (harg4 : arg4.IsWhole)
  (arg5 : Memref sig .tc .vmem S1x64 .f32) (harg5 : arg5.IsWhole)
  (arg6 : Memref sig .tc .vmem S1x128 .f32) (harg6 : arg6.IsWhole)
  (arg7 : Memref sig .tc .vmem S1x1x2x2560 .f32) (harg7 : arg7.IsWhole)
  (arg8 : Memref sig .tc .vmem S1x1x2x2560 .f32) (harg8 : arg8.IsWhole)
  (arg9 : Memref sig .tc .vmem S1x1x128 .f32) (harg9 : arg9.IsWhole)
  (arg10 : Memref sig .tc .vmem S1x2560x128 .fp8e4m3) (harg10 : arg10.IsWhole)
  (arg11 : Memref sig .tc .vmem S1x2560x128 .fp8e4m3) (harg11 : arg11.IsWhole)
  (arg12 : Memref sig .tc .vmem S1x2560x128 .fp8e4m3) (harg12 : arg12.IsWhole)
  (arg13 : Memref sig .tc .vmem S1x2560x128 .bf16) (harg13 : arg13.IsWhole)
  (arg14 : Memref sig .tc .vmem S2560x128 .fp8e4m3) (harg14 : arg14.IsWhole)
  (arg15 : Memref sig .tc .vmem S2x2560x128 .fp8e4m3) (harg15 : arg15.IsWhole)
  (arg16 : Memref sig .tc .vmem S128x2560 .bf16) (harg16 : arg16.IsWhole)
  (arg17 : Memref sig .tc .vmem S2x2560x128 .f32) (harg17 : arg17.IsWhole)
  (arg18 : Memref sig .tc .vmem S2x2560x256 .f32) (harg18 : arg18.IsWhole)
  (x0 : Vec Ideal S1x64 .f32)
  (x1 : Vec Ideal S1x64 .f32)
  (x2 : Vec Ideal S1x64 .f32)
  (x3 : Vec Ideal S1x64 .f32)
  (x4 : Vec Ideal S1x128 .f32)
  (x5 : Vec Ideal S1x1x2x2560 .f32)
  (x6 : Vec Ideal S1x1x2x2560 .f32)
  (x7 : Vec Ideal S1x1x128 .f32)
  (x8 : Vec Ideal S1x2560x128 .fp8e4m3)
  (x9 : Vec Ideal S1x2560x128 .fp8e4m3)
  (x10 : Vec Ideal S1x2560x128 .fp8e4m3)

theorem lam_apply : (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10 : Src Ideal).lam (ix2 0 0) = (numOf x0 x1 x2 x3 x4 x5 x6 x7 x8 x9 x10).lam := by
  pointwise [srcOf, numOf, k0_pay2]
  simp only [View.readAt_eq_ld, Memref.IsWhole.read_unread]
  pointwise

theorem gain_apply (d : Fin 128) (s : Fin 256) : (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10 : Src Ideal).gain (ix2 d s) = (numOf x0 x1 x2 x3 x4 x5 x6 x7 x8 x9 x10).gain d := by
  pointwise [srcOf, numOf, k0_pay3]
  simp only [View.readAt_eq_ld, Memref.IsWhole.read_unread]
  pointwise
  exact ite_self _

theorem vs_apply (d : Fin 128) (s : Fin 256) : (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10 : Src Ideal).vs (ix2 d s) = (numOf x0 x1 x2 x3 x4 x5 x6 x7 x8 x9 x10).vs d := by
  pointwise [srcOf, numOf, k0_pay4]
  simp only [View.readAt_eq_ld, Memref.IsWhole.read_unread]
  pointwise
  exact ite_self _

theorem qs_apply (c : Fin 2) (i : Fin 10) (s : Fin 256) : (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10 : Src Ideal).qs c i (ix4 0 0 0 s) = (numOf x0 x1 x2 x3 x4 x5 x6 x7 x8 x9 x10).qs c (at' i s) := by
  pointwise [srcOf, numOf]
  simp only [View.readAt_eq_ld, Memref.IsWhole.read_unread]
  pointwise [srect]
  rfl

theorem vt_apply (j : Fin 10) (d : Fin 128) (r : Fin 256) : (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10 : Src Ideal).vt j (ix2 d r) = (numOf x0 x1 x2 x3 x4 x5 x6 x7 x8 x9 x10).v (at' j r) d := by
  show arg16.view.readCov (valStores arg12 harg12 x10) (vrect j).toLoadRect (ix2 d r) = x10 (ix3 0 (at' j r) d)
  rw [valStores, View.readCov_fill _ _ _ _ _ (by decide)]
  pointwise [k0_pay10, vrect]
  simp only [View.readAt_eq_ld, Memref.IsWhole.read_unread]
  pointwise
  rfl

/-! ## The halves of the heads -/

theorem key_apply0 (j : Fin 10) (r : Fin 256) (l : Fin 128) : (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10 : Src Ideal).key 0 j (ix2 r l) = x9 (ix3 0 (at' j r) l) := by
  refine (drop_apply (View.readAt (Elt Ideal) arg11.view (orect j).toLoadRect (harg11.unread x9)) r l).trans ?_
  exact (harg11.readAt_unread x9 _ _).trans (congrArg x9 (orect_idx j r l))

theorem key_apply1 (j : Fin 10) (r : Fin 256) (l : Fin 128) :
    (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10 : Src Ideal).key 1 j (ix2 r l) = x9 (ix3 0 (at' j r) (turn l)) := by
  show arg14.view.readCov (keyStores arg11 harg11 x9) (rrect j).toLoadRect (ix2 r l) = _
  rw [keyStores, View.readCov_fill _ _ _ _ _ (by decide)]
  pointwise [k0_pay6, k0_pay5, rrect]
  simp only [View.readAt_eq_ld, Memref.IsWhole.read_unread]
  pointwise
  rfl

theorem qry_apply1 (i : Fin 10) (s : Fin 256) (l : Fin 128) :
    (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10 : Src Ideal).qry 1 i (ix3 0 s l) = k0_pay9 x8 (ix3 0 (at' i s) l) := by
  show arg15.view.readCov (qryStores arg10 harg10 x8) (krect 1 i).toLoadRect (ix3 0 s l) = _
  rw [View.readCov_eq_canon']
  show View.canon (qryStores arg10 harg10 x8) ((krect 1 i).emb (ix3 0 s l)) = _
  rw [krect_idx, qryStores]
  refine (congrArg (View.canon _) (hrect_idx 1 (by decide) inb_S2x2560x128_S1x2560x128_1_0_0 (at' i s) l).symm).trans ?_
  refine (View.canon_cons_emb _ _ _ _).trans ?_
  rw [View.readAt_eq_ld, Memref.IsWhole.read_unread, ld_whole]

theorem qry_apply0 (i : Fin 10) (s : Fin 256) (l : Fin 128) :
    (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10 : Src Ideal).qry 0 i (ix3 0 s l) = k0_pay8 x8 (ix3 0 (at' i s) l) := by
  show arg15.view.readCov (qryStores arg10 harg10 x8) (krect 0 i).toLoadRect (ix3 0 s l) = _
  rw [View.readCov_eq_canon']
  show View.canon (qryStores arg10 harg10 x8) ((krect 0 i).emb (ix3 0 s l)) = _
  rw [krect_idx, qryStores]
  refine (congrArg (View.canon _) (hrect_idx 0 (by decide) inb_S2x2560x128_S1x2560x128_0_0_0 (at' i s) l).symm).trans ?_
  rw [View.canon_cons_of_not_mem]
  · refine (View.canon_cons_emb _ _ _ _).trans ?_
    rw [View.readAt_eq_ld, Memref.IsWhole.read_unread, ld_whole]
  · exact Finset.disjoint_right.mp hrect_disjoint (LoadRect.idx_mem (Rect.toLoadRect _) _)

theorem kcol_apply (c : Fin 2) (j : Fin 10) (r : Fin 256) (l : Fin 128) :
    (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10 : Src Ideal).kcol c j (ix3 0 r l) = (numOf x0 x1 x2 x3 x4 x5 x6 x7 x8 x9 x10).ks c (at' j r) := by
  show arg17.view.readCov (scaleStores arg8 harg8 x6) (krect c j).toLoadRect (ix3 0 r l) = x6 (ix4 0 0 c (at' j r))
  rw [View.readCov_eq_canon']
  show View.canon (scaleStores arg8 harg8 x6) ((krect c j).emb (ix3 0 r l)) = _
  rw [krect_idx, ← krect'_idx, scaleStores]
  have fin : ∀ t : Fin 20, ∀ r l : Fin 128, spread (View.readAt (Elt Ideal) arg8.view (srect' c t).toLoadRect (harg8.unread x6)) (ix3 0 r l)
      = x6 (ix4 0 0 c ⟨128 * t.val + r.val, by omega⟩) := fun t r l => by
    refine (spread_apply _ r l).trans ((harg8.readAt_unread x6 _ _).trans (congrArg x6 ?_))
    funext a
    match a with
    | ⟨0, _⟩ => rfl
    | ⟨1, _⟩ => rfl
    | ⟨2, _⟩ => exact Fin.ext (by show c.val + 1 * 0 = c.val; omega)
    | ⟨3, _⟩ => exact Fin.ext (by show 128 * t.val + 1 * r.val = 128 * t.val + r.val; omega)
  have e : ∀ k : Fin 2560, (⟨128 * (k.val / 128) + k.val % 128, by omega⟩ : Fin 2560) = k := fun k => Fin.ext (Nat.div_add_mod _ _)
  match c with
  | 0 =>
    refine (canon_spreads_other _ (c := 1) (c' := 0) (by decide) _ _ _ 20 _).trans ?_
    refine (canon_spreads _ 0 [] _ _ 20 _ (by simp only [at']; omega)).trans ((fin _ _ _).trans ?_)
    rw [e]
  | 1 =>
    refine (canon_spreads _ 1 _ _ _ 20 _ (by simp only [at']; omega)).trans ((fin _ _ _).trans ?_)
    rw [e]

/-- What the loops read are the numbers in the blocks. -/
theorem reads : Reads (srcOf arg2 harg2 arg3 harg3 arg4 harg4 arg5 harg5 arg6 harg6 arg7 harg7 arg8 harg8 arg9 harg9 arg10 harg10
      arg11 harg11 arg12 harg12 arg14 arg15 arg16 arg17 arg18 x0 x1 x2 x3 x4 x5 x6 x7 x8 x9 x10) (numOf x0 x1 x2 x3 x4 x5 x6 x7 x8 x9 x10) where
  lam := by apply lam_apply
  gain := fun a b => by apply gain_apply
  vs := fun a b => by apply vs_apply
  qs := fun a b c => by apply qs_apply
  kcol := fun a b c d => by apply kcol_apply
  vt := fun a b c => by apply vt_apply
  dot := fun c i j r s => by
    match c with
    | 0 =>
      simp only [key_apply0, qry_apply0, pay8_apply]
      refine (sum_low (fun l => x9 (ix3 0 (at' j r) l)) (fun l => x8 (ix3 0 (at' i s) l))).trans ?_
      show _ = ∑ t : Fin 64, x9 (ix3 0 (at' j r) (half 0 t)) * x8 (ix3 0 (at' i s) (half 0 t))
      have e : ∀ t : Fin 64, (⟨t.val, by omega⟩ : Fin 128) = half 0 t := fun t => Fin.ext (by show t.val = 64 * 0 + t.val; omega)
      simp only [e]
    | 1 =>
      simp only [key_apply1, qry_apply1, pay9_apply]
      refine (sum_low (fun l => x9 (ix3 0 (at' j r) (turn l))) (fun l => x8 (ix3 0 (at' i s) (turn l)))).trans ?_
      show _ = ∑ t : Fin 64, x9 (ix3 0 (at' j r) (half 1 t)) * x8 (ix3 0 (at' i s) (half 1 t))
      have e : ∀ t : Fin 64, turn ⟨t.val, by omega⟩ = half 1 t := fun t => Fin.ext (by
        show (t.val + 128 - 64) % 128 = 64 * 1 + t.val; omega)
      simp only [e]

end Cert.Attn

end
-- ==== Proof.KernelValue.lean ====
/-
  The kernel's result array, on extended reals: at batch entry `b`, query `q` and lane `d` of head `h` it holds
  `Num.kernel` of that batch entry and head.
-/
module

public import proofs.«01_k».proof.Proof.Inputs
public import proofs.«01_k».proof.Proof.Args
public import proofs.«01_k».proof.Proof.ReadBack
public import proofs.«01_k».proof.Proof.Gen.KernelIdeal.Value
public import Idealize.ShloMosaic.Lib.Pipeline.ValueKit
public import Idealize.ShloMosaic.Lib.Claim
public import Idealize.ShloMosaic.Lib.Pointwise

@[expose] public section

set_option maxRecDepth 16384

noncomputable section

namespace Cert.Attn

open Idealize.ShloMosaic Idealize.ShloMosaic.TcCoe Idealize.SL.Sem Cert.KernelIdeal Cert.KernelIdeal.Gen Cert.KernelIdeal.Value
open Idealize.ShloMosaic.Pipeline (Dat)

variable (m : (ℓ : Loc nD τ sig) → Buf (Elt Ideal) ℓ)

/-- The numbers of batch entry `b` and head `h` in a memory. -/
def memNum (c : Dev nD) (b : Fin 6) (h : Fin 32) : Num :=
  argNum (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) b h

/-- Where each window's block stands at a grid point. -/
theorem idx : ∀ t : Fin cfg0.N,
    win0_0.index t = ![0, 0] ∧ win0_1.index t = ![0, 0] ∧ win0_2.index t = ![0, 0] ∧ win0_3.index t = ![0, 0]
    ∧ win0_4.index t = ![0, 0] ∧ win0_5.index t = ![t.val / 32, t.val % 32, 0, 0] ∧ win0_6.index t = ![t.val / 32, t.val % 32, 0, 0]
    ∧ win0_7.index t = ![t.val % 32, 0, 0] ∧ win0_8.index t = ![t.val / 32, 0, t.val % 32]
    ∧ win0_9.index t = ![t.val / 32, 0, t.val % 32] ∧ win0_10.index t = ![t.val / 32, 0, t.val % 32]
    ∧ win0_11.index t = ![t.val / 32, 0, t.val % 32] :=
  (by decide +kernel : ∀ t : Fin grid0.N, _)

/-- The batch entry of a grid point. -/
def entryOf (t : Fin cfg0.N) : Fin 6 := ⟨t.val / 32, by have : t.val < 192 := t.isLt; omega⟩

/-- The head of a grid point. -/
def headOf (t : Fin cfg0.N) : Fin 32 := ⟨t.val % 32, Nat.mod_lt _ (by decide)⟩

theorem iblk0_apply (c : Dev nD) (t : Fin cfg0.N) (k : Fin 64) :
    iblk m c 0 t (ix2 0 k) = m ((c : Thread nD τ).loc main_arg6) (ix1 k) := by
  blk_ext! [iblk, V, idx t]

theorem iblk1_apply (c : Dev nD) (t : Fin cfg0.N) (k : Fin 64) :
    iblk m c 1 t (ix2 0 k) = m ((c : Thread nD τ).loc main_arg7) (ix1 k) := by
  blk_ext! [iblk, V, idx t]

theorem iblk2_apply (c : Dev nD) (t : Fin cfg0.N) (k : Fin 64) :
    iblk m c 2 t (ix2 0 k) = m ((c : Thread nD τ).loc main_arg8) (ix1 k) := by
  blk_ext! [iblk, V, idx t]

theorem iblk3_apply (c : Dev nD) (t : Fin cfg0.N) (k : Fin 64) :
    iblk m c 3 t (ix2 0 k) = m ((c : Thread nD τ).loc main_arg9) (ix1 k) := by
  blk_ext! [iblk, V, idx t]

theorem iblk4_apply (c : Dev nD) (t : Fin cfg0.N) (d : Fin 128) :
    iblk m c 4 t (ix2 0 d) = m ((c : Thread nD τ).loc main_arg10) (ix1 d) := by
  blk_ext! [iblk, V, idx t]

theorem iblk5_apply (c : Dev nD) (t : Fin cfg0.N) (j : Fin 2) (q : Fin 2560) :
    iblk m c 5 t (ix4 0 0 j q) = m ((c : Thread nD τ).loc main_arg1) (ix4 (entryOf t) q (headOf t) j) := by
  blk_ext! [iblk, V, idx t, entryOf, headOf]

theorem iblk6_apply (c : Dev nD) (t : Fin cfg0.N) (j : Fin 2) (q : Fin 2560) :
    iblk m c 6 t (ix4 0 0 j q) = m ((c : Thread nD τ).loc main_arg3) (ix4 (entryOf t) q (headOf t) j) := by
  blk_ext! [iblk, V, idx t, entryOf, headOf]

theorem iblk7_apply (c : Dev nD) (t : Fin cfg0.N) (d : Fin 128) :
    iblk m c 7 t (ix3 0 0 d) = m ((c : Thread nD τ).loc main_arg5) (ix2 (headOf t) d) := by
  blk_ext! [iblk, V, idx t, entryOf, headOf]

theorem iblk8_apply (c : Dev nD) (t : Fin cfg0.N) (q : Fin 2560) (j : Fin 2) (l : Fin 64) :
    iblk m c 8 t (ix3 0 q (half j l)) = m ((c : Thread nD τ).loc main_arg0) (ix5 (entryOf t) q (headOf t) j l) := by
  blk_ext! [iblk, V, idx t, entryOf, headOf, half]

theorem iblk9_apply (c : Dev nD) (t : Fin cfg0.N) (q : Fin 2560) (j : Fin 2) (l : Fin 64) :
    iblk m c 9 t (ix3 0 q (half j l)) = m ((c : Thread nD τ).loc main_arg2) (ix5 (entryOf t) q (headOf t) j l) := by
  blk_ext! [iblk, V, idx t, entryOf, headOf, half]

theorem iblk10_apply (c : Dev nD) (t : Fin cfg0.N) (q : Fin 2560) (d : Fin 128) :
    iblk m c 10 t (ix3 0 q d) = m ((c : Thread nD τ).loc main_arg4) (ix4 (entryOf t) q (headOf t) d) := by
  blk_ext! [iblk, V, idx t, entryOf, headOf]

/-- The numbers in the blocks of a grid point are those of its batch entry and head. -/
theorem numOf_eq (c : Dev nD) (t : Fin cfg0.N) :
    numOf (iblk m c 0 t) (iblk m c 1 t) (iblk m c 2 t) (iblk m c 3 t) (iblk m c 4 t) (iblk m c 5 t) (iblk m c 6 t) (iblk m c 7 t)
      (iblk m c 8 t) (iblk m c 9 t) (iblk m c 10 t) = memNum m c (entryOf t) (headOf t) := by
  simp only [numOf, memNum, argNum, iblk0_apply, iblk1_apply, iblk2_apply, iblk3_apply, iblk4_apply, iblk5_apply, iblk6_apply,
    iblk7_apply, iblk8_apply, iblk9_apply, iblk10_apply]

/-- The kernel's result, at an index. -/
def kernelArray (c : Dev nD) : Vec Ideal S6x2560x4096 .bf16 := fun j =>
  (memNum m c (j 0) ⟨(j 2).val / 128, by have : (j 2).val < 4096 := (j 2).isLt; omega⟩).kernel (j 1) ⟨(j 2).val % 128, Nat.mod_lt _ (by decide)⟩

/-- A grid point's block holds its batch entry and head. -/
theorem out_apply (c : Dev nD) (t : Fin cfg0.N)
    (hf : ∀ (b : Fin 6) (h : Fin 32) (j : Fin 2) (q : Fin 2560), 0 < (memNum m c b h).qs j q * scale2) (q : Fin 2560) (d : Fin 128) :
    outsAt0 m c t (ix3 0 q d) = (memNum m c (entryOf t) (headOf t)).kernel q d := by
  have hq : q = at' ⟨q.val / 256, by omega⟩ ⟨q.val % 256, by omega⟩ := Fin.ext (Nat.div_add_mod _ _).symm
  rw [outsAt0, out0_A_11, View.read_writes_junk_eq_canon, run_eq]
  rw [hq, ← orect_idx]
  refine (canon_stores _ _ _ 10 (Nat.le_refl 10) (Fin.isLt _)).trans ?_
  refine (outBlock_apply (N := memNum m c (entryOf t) (headOf t)) ?_ (hf _ _) _ _ _)
  rw [← numOf_eq]
  apply reads

theorem kernelArray_apply (c : Dev nD) (b : Fin 6) (q : Fin 2560) (h : Fin 32) (d : Fin 128) :
    kernelArray m c (ix3 b q (lane h d)) = (memNum m c b h).kernel q d := by
  have e1 : (128 * h.val + d.val) / 128 = h.val := by omega
  have e2 : (128 * h.val + d.val) % 128 = d.val := by omega
  show (memNum m c b ⟨(128 * h.val + d.val) / 128, _⟩).kernel q ⟨(128 * h.val + d.val) % 128, _⟩ = _
  simp only [e1, e2]

/-- The kernel's result array after the run. -/
theorem kernel_array (c : Dev nD)
    (hf : ∀ (b : Fin 6) (h : Fin 32) (j : Fin 2) (q : Fin 2560), 0 < (memNum m c b h).qs j q * scale2) :
    (dats m 0 c).arrAt 11 cfg0.N = kernelArray m c := by
  refine (dats m 0 c).arrAt_eq_of_covers 11 _ (by decide +kernel) fun t _ y => ?_
  have he : ((cfg0.win 11).blk t).view.emb y = ix3 (entryOf t) (y 1) (lane (headOf t) (y 2)) := by
    blk_ext! [idx t, entryOf, headOf, lane]
  refine Eq.trans ?_ ((congrArg (kernelArray m c) he).trans (kernelArray_apply m c _ _ _ _)).symm
  refine Eq.trans ?_ (out_apply m c t hf (y 1) (y 2))
  blk_simp
  rw [after0_11]
  refine congrArg (outsAt0 m c t) ?_
  blk_ext!

end Cert.Attn

end
-- ==== Proof.Positive.lean ====
/-
  What the precondition says of the numbers: every scale of the queries is a positive real.
-/
module

public import proofs.«01_k».proof.Defs
public import proofs.«01_k».proof.Proof.Join
public import proofs.«01_k».proof.Proof.KernelValue
public import proofs.«01_k».proof.Proof.Gen.Pre_positive_scales
public import Idealize.ShloMosaic.Lib.ReduceAll

@[expose] public section

noncomputable section

namespace Cert.Attn

open Idealize.ShloMosaic Idealize.SL.Sem Cert.KernelIdeal

theorem inf_eq : Ideal.ofBits .f32 0x7F800000#32 = ⊤ := by simp [Ideal.ofBits, Ideal.ieee]

/-- An extended real between zero and infinity is a positive real. -/
theorem pos_real {x : EReal} (h0 : Ideal.ofBits .f32 0x00000000#32 < x) (h1 : x < Ideal.ofBits .f32 0x7F800000#32) :
    ∃ p : ℝ, 0 < p ∧ x = (p : EReal) := by
  rw [inf_eq] at h1
  have hz : Ideal.ofBits .f32 0x00000000#32 = 0 := by simp [Ideal.ofBits, Ideal.ieee]
  rw [hz] at h0
  refine ⟨x.toReal, ?_, (EReal.coe_toReal h1.ne (bot_le.trans_lt h0).ne').symm⟩
  exact EReal.toReal_pos h0 h1.ne

instance : Subsingleton Cert.Pre_positive_scales.S_.Idx := ⟨fun a b => funext fun i => i.elim0⟩

/-- The precondition, for one array of scales. -/
theorem scales_real [Cert.Pre_positive_scales.Facts] {a0 a1 a2 a3 a4 a5 a6 a7 a8 a9 a10}
    (h : (Cert.Pre_positive_scales.fn (F := Ideal) a0 a1 a2 a3 a4 a5 a6 a7 a8 a9 a10).1 = (fun _ => 1#1)
      ∧ (Cert.Pre_positive_scales.fn (F := Ideal) a0 a1 a2 a3 a4 a5 a6 a7 a8 a9 a10).2 = (fun _ => 1#1))
    (i : Cert.Pre_positive_scales.S6x2560x32x2.Idx) : ∃ p : ℝ, 0 < p ∧ (a1 i : EReal) = (p : EReal) := by
  obtain ⟨e0, e1⟩ := h
  simp only [Cert.Pre_positive_scales.fn] at e0 e1
  have h0 := Host.reduce_andi_all _ _ _ _ ix0 (congrFun e0 ix0) i
  have h1 := Host.reduce_andi_all _ _ _ _ ix0 (congrFun e1 ix0) i
  exact pos_real ((Ideal.cmp_ogt_eq_one _ _).1 h0) ((Ideal.cmp_olt_eq_one _ _).1 h1)

/-- The precondition, for the numbers of every batch entry and head. -/
theorem memNum_positive [Cert.Pre_positive_scales.Facts] (m : (ℓ : Loc nD τ sig) → Buf (Elt Ideal) ℓ)
    (h : Cert.Pre_KernelIdeal_positive_scales m) (c : Dev nD) (b : Fin 6) (k : Fin 32) : (memNum m c b k).Positive :=
  fun j q => scales_real (h c) (ix4 b q k j)

end Cert.Attn

end
-- ==== Proof.lean ====
/-
  The certificate: the frames of the kernel, of its reading over the extended reals and of the reference, the ledger of
  the one named constant, and the equation of the kernel's result and the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.Pre_positive_scales
public import proofs.«01_k».proof.Proof.RefValue
public import proofs.«01_k».proof.Proof.Positive
public import Idealize.ShloMosaic.Adequacy
public import Idealize.ShloMosaic.Init

@[expose] public section

noncomputable section

namespace Cert.Proof

open Idealize.ShloMosaic Idealize.SL.Sem Cert.Kernel

/-- The reference's result is the kernel's, from memories that agree on the arguments. -/
theorem reference_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hp : ∀ b h, (Cert.Attn.memNum m c b h).Positive)
    (hm : ∀ b h, Cert.Attn.Ref.memNum m' c b h = Cert.Attn.memNum m c b h) :
    (Pipeline.afterTail₀ Cert.ReferenceIdeal.cfgs (Cert.ReferenceIdeal.Gen.dats m') 0 (Cert.ReferenceIdeal.Gen.V0 m')
      [Cert.ReferenceIdeal.Gen.hostOps1, Cert.ReferenceIdeal.Gen.hostOps1_1, Cert.ReferenceIdeal.Gen.hostOps1_2] c
      Cert.ReferenceIdeal.main_v74 : FVec Ideal Cert.KernelIdeal.S6x2560x4096 .bf16) = Cert.Attn.kernelArray m c := by
  funext j
  obtain ⟨b, q, l, rfl⟩ : ∃ b q l, j = ix3 b q l := ⟨j 0, j 1, j 2, by funext k; fin_cases k <;> rfl⟩
  obtain ⟨h, d, rfl⟩ : ∃ h d, l = Cert.Attn.lane h d :=
    ⟨⟨l.val / 128, by omega⟩, ⟨l.val % 128, by omega⟩, Fin.ext (Nat.div_add_mod _ _).symm⟩
  rw [Cert.Attn.kernelArray_apply, Cert.Attn.Num.kernel_eq_reference (hp b h), ← hm]
  exact Cert.Attn.Ref.reference_array m' c b q h d

/-- The kernel and the reference end with equal results over the extended reals. -/
theorem equal_results : Cert.algebraic_KernelIdeal_ReferenceIdeal_pre_positive_scales := by
  pair_intro
  · run_from Cert.KernelIdeal.Value.run_blocks m g
  · run_from Cert.Attn.Ref.reference_run m' g'
    have hp := Cert.Attn.memNum_positive m hpre c
    refine (reference_eq m m' c hp fun b h => ?_).trans (Cert.Attn.kernel_array m c fun b h => (hp b h).scaled).symm
    obtain ⟨e0, e1, e2, e3, e4, e5, e6, e7, e8, e9, e10⟩ := hagree c
    simp only [Cert.Attn.Ref.memNum, Cert.Attn.memNum]
    rw [e0, e1, e2, e3, e4, e5, e6, e7, e8, e9, e10]

theorem claim : Cert.Claim := ⟨Cert.Kernel.Gen.facts, Cert.KernelIdeal.Gen.facts, Cert.ReferenceIdeal.Gen.facts,
  Cert.Pre_positive_scales.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  IdealRules.named_const.statement Cert.KernelIdeal.κ "score_scale_log2e" .f32 0x3E38AA3B#32 _ rfl,
  equal_results⟩

end Cert.Proof

end
